-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S512x65 : Shape := ⟨2, ![512, 65]⟩
abbrev S512 : Shape := ⟨1, ![512]⟩
abbrev S512x512 : Shape := ⟨2, ![512, 512]⟩
abbrev S1x512 : Shape := ⟨2, ![1, 512]⟩
abbrev S1 : Shape := ⟨1, ![1]⟩
abbrev S1024 : Shape := ⟨1, ![1024]⟩
abbrev S512x1024 : Shape := ⟨2, ![512, 1024]⟩
abbrev S1x1024 : Shape := ⟨2, ![1, 1024]⟩
abbrev S512x1 : Shape := ⟨2, ![512, 1]⟩
abbrev S512x64 : Shape := ⟨2, ![512, 64]⟩
abbrev S1x1x1024 : Shape := ⟨3, ![1, 1, 1024]⟩
abbrev S1x1x1 : Shape := ⟨3, ![1, 1, 1]⟩

abbrev nBuf : Space → Nat
  | .hbm => 11
  | .vmem => 15
  | .smem => 2
  | _ => 0

abbrev bufTy : (tb : Table) → Fin (tcTables nBuf tb) → BufTy
  | .hbm, ⟨0, _⟩ => ⟨S1024x64, .f32⟩
  | .hbm, ⟨1, _⟩ => ⟨S512x65, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S1x512, .f32⟩
  | .hbm, ⟨8, _⟩ => ⟨S1, .f32⟩
  | .hbm, ⟨9, _⟩ => ⟨S1024, .f32⟩
  | .hbm, ⟨10, _⟩ => ⟨S1024, .f32⟩
  | .local _ .vmem, ⟨0, _⟩ => ⟨S1024x64, .f32⟩
  | .local _ .vmem, ⟨1, _⟩ => ⟨S512x65, .f32⟩
  | .local _ .vmem, ⟨2, _⟩ => ⟨S512, .f32⟩
  | .local _ .vmem, ⟨3, _⟩ => ⟨S512x512, .f32⟩
  | .local _ .vmem, ⟨4, _⟩ => ⟨S512, .f32⟩
  | .local _ .vmem, ⟨5, _⟩ => ⟨S1x512, .f32⟩
  | .local _ .vmem, ⟨6, _⟩ => ⟨S1x512, .f32⟩
  | .local _ .vmem, ⟨7, _⟩ => ⟨S1024, .f32⟩
  | .local _ .vmem, ⟨8, _⟩ => ⟨S1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .smem, ⟨0, _⟩ => ⟨S1, .f32⟩
  | .local _ .smem, ⟨1, _⟩ => ⟨S1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg7_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_stg6_0 : Ref sig .tc := ⟨.smem, 0, rfl⟩
abbrev cc0_stg8_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x65 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S1024x64 : Shape := ⟨2, ![1024, 64]⟩
abbrev S512x65 : Shape := ⟨2, ![512, 65]⟩
abbrev S512 : Shape := ⟨1, ![512]⟩
abbrev S512x512 : Shape := ⟨2, ![512, 512]⟩
abbrev S1x512 : Shape := ⟨2, ![1, 512]⟩
abbrev S1 : Shape := ⟨1, ![1]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1024x65 : Shape := ⟨2, ![1024, 65]⟩
abbrev S65x512 : Shape := ⟨2, ![65, 512]⟩
abbrev S512x1 : Shape := ⟨2, ![512, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S1024x64, .f32⟩
  | 1 => ⟨S512x65, .f32⟩
  | 2 => ⟨S512, .f32⟩
  | 3 => ⟨S512x512, .f32⟩
  | 4 => ⟨S512, .f32⟩
  | 5 => ⟨S1x512, .f32⟩
  | 6 => ⟨S1, .f32⟩
  | 7 => ⟨S1x512, .f32⟩
  | 8 => ⟨S1, .f32⟩
  | 9 => ⟨S_, .f32⟩
  | 10 => ⟨S1024x512, .f32⟩
  | 11 => ⟨S_, .f32⟩
  | 12 => ⟨S1024, .f32⟩
  | 13 => ⟨S_, .f32⟩
  | 14 => ⟨S1024x512, .f32⟩
  | 15 => ⟨S_, .i1⟩
  | 16 => ⟨S1024, .i1⟩
  | 17 => ⟨S_, .f32⟩
  | 18 => ⟨S1024, .f32⟩
  | 19 => ⟨S_, .f32⟩
  | 20 => ⟨S1024, .f32⟩
  | 21 => ⟨S_, .i32⟩
  | 22 => ⟨S_, .i32⟩
  | 23 => ⟨S1024x64, .f32⟩
  | 24 => ⟨S512x65, .f32⟩
  | 25 => ⟨S512, .f32⟩
  | 26 => ⟨S512x512, .f32⟩
  | 27 => ⟨S512, .f32⟩
  | 28 => ⟨S1x512, .f32⟩
  | 29 => ⟨S1, .f32⟩
  | 30 => ⟨S_, .i32⟩
  | 31 => ⟨S_, .i32⟩
  | 32 => ⟨S1024x512, .f32⟩
  | 33 => ⟨S1024, .f32⟩
  | 34 => ⟨S1024x512, .f32⟩
  | 35 => ⟨S1024, .i1⟩
  | 36 => ⟨S1024, .f32⟩
  | 37 => ⟨S1024, .f32⟩
  | 38 => ⟨S_, .i32⟩
  | 39 => ⟨S_, .i1⟩
  | 40 => ⟨S_, .i32⟩
  | 41 => ⟨S_, .i32⟩
  | 42 => ⟨S_, .f32⟩
  | 43 => ⟨S1024x1, .f32⟩
  | 44 => ⟨S_, .f32⟩
  | 45 => ⟨S1024x1, .f32⟩
  | 46 => ⟨S1024x1, .f32⟩
  | 47 => ⟨S1024x65, .f32⟩
  | 48 => ⟨S1024, .f32⟩
  | 49 => ⟨S65x512, .f32⟩
  | 50 => ⟨S1024x512, .f32⟩
  | 51 => ⟨S1x512, .f32⟩
  | 52 => ⟨S1024x512, .f32⟩
  | 53 => ⟨S1024x512, .f32⟩
  | 54 => ⟨S512x512, .f32⟩
  | 55 => ⟨S1024x512, .f32⟩
  | 56 => ⟨S1024x512, .f32⟩
  | 57 => ⟨S1x512, .f32⟩
  | 58 => ⟨S1024x512, .f32⟩
  | 59 => ⟨S1024x512, .f32⟩
  | 60 => ⟨S1024x512, .f32⟩
  | 61 => ⟨S1024x1, .i1⟩
  | 62 => ⟨S1024x512, .i1⟩
  | 63 => ⟨S1024x512, .f32⟩
  | 64 => ⟨S1024x1, .i1⟩
  | 65 => ⟨S_, .f32⟩
  | 66 => ⟨S_, .f32⟩
  | 67 => ⟨S1024x512, .i1⟩
  | 68 => ⟨S1024x512, .f32⟩
  | 69 => ⟨S1024x512, .f32⟩
  | 70 => ⟨S1024x512, .f32⟩
  | 71 => ⟨S512x1, .f32⟩
  | 72 => ⟨S1024x1, .f32⟩
  | 73 => ⟨S1x1, .f32⟩
  | 74 => ⟨S1024x1, .f32⟩
  | 75 => ⟨S1024x1, .f32⟩
  | 76 => ⟨S1024x1, .f32⟩
  | 77 => ⟨S1024x1, .f32⟩
  | 78 => ⟨S_, .f32⟩
  | 79 => ⟨S1024x1, .f32⟩
  | 80 => ⟨S1024x1, .f32⟩
  | 81 => ⟨S_, .f32⟩
  | 82 => ⟨S1024x1, .f32⟩
  | 83 => ⟨S1024x1, .f32⟩
  | 84 => ⟨S1024, .f32⟩
  | 85 => ⟨S_, .f32⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S_, .f32⟩
  | 94 => ⟨S1024, .f32⟩
  | 95 => ⟨S1024, .f32⟩
  | 96 => ⟨S1024, .f32⟩
  | 97 => ⟨S1024x1, .i1⟩
  | 98 => ⟨S1024x1, .f32⟩
  | 99 => ⟨S1024x512, .f32⟩
  | 100 => ⟨S1024x512, .f32⟩
  | 101 => ⟨S_, .f32⟩
  | 102 => ⟨S_, .f32⟩
  | 103 => ⟨S1024x512, .i1⟩
  | 104 => ⟨S1024x512, .f32⟩
  | 105 => ⟨S1024x512, .f32⟩
  | 106 => ⟨S1024x512, .f32⟩
  | 107 => ⟨S_, .f32⟩
  | 108 => ⟨S_, .f32⟩
  | 109 => ⟨S1024, .f32⟩
  | 110 => ⟨S1024, .f32⟩
  | 111 => ⟨S1024, .f32⟩
  | 112 => ⟨S1024, .f32⟩
  | 113 => ⟨S1024, .f32⟩
  | 114 => ⟨S_, .f32⟩
  | 115 => ⟨S1024, .f32⟩
  | 116 => ⟨S1024, .i1⟩
  | 117 => ⟨S_, .i32⟩
  | 118 => ⟨S_, .i32⟩
  | 119 => ⟨S1024, .f32⟩
  | 120 => ⟨S1024x1, .f32⟩
  | 121 => ⟨S1024x512, .f32⟩
  | 122 => ⟨S1024x512, .f32⟩
  | 123 => ⟨S512x1, .f32⟩
  | 124 => ⟨S1024x1, .f32⟩
  | 125 => ⟨S1x1, .f32⟩
  | 126 => ⟨S1024x1, .f32⟩
  | 127 => ⟨S1024x1, .f32⟩
  | _ => ⟨S1024x64, .f32⟩

abbrev hbmTy0_1 (i : Nat) : BufTy := match i % 128 with
  | 0 => ⟨S1024, .f32⟩
  | _ => ⟨S1024x64, .f32⟩

abbrev hbmTy (i : Nat) : BufTy := match i / 128 with
  | 0 => hbmTy0_0 i
  | 1 => hbmTy0_1 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_cst_3 : Ref sig .tc := ⟨.hbm, 19, rfl⟩
abbrev main_v5 : Ref sig .tc := ⟨.hbm, 20, rfl⟩
abbrev main_c_4 : Ref sig .tc := ⟨.hbm, 21, rfl⟩
abbrev main_c_5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_v6_3 : Ref sig .tc := ⟨.hbm, 26, rfl⟩
abbrev main_v6_4 : Ref sig .tc := ⟨.hbm, 27, rfl⟩
abbrev main_v6_5 : Ref sig .tc := ⟨.hbm, 28, rfl⟩
abbrev main_v6_6 : Ref sig .tc := ⟨.hbm, 29, rfl⟩
abbrev main_v6_7 : Ref sig .tc := ⟨.hbm, 30, rfl⟩
abbrev main_v6_8 : Ref sig .tc := ⟨.hbm, 31, rfl⟩
abbrev main_v6_9 : Ref sig .tc := ⟨.hbm, 32, rfl⟩
abbrev main_v6_10 : Ref sig .tc := ⟨.hbm, 33, rfl⟩
abbrev main_v6_11 : Ref sig .tc := ⟨.hbm, 34, rfl⟩
abbrev main_v6_12 : Ref sig .tc := ⟨.hbm, 35, rfl⟩
abbrev main_v6_13 : Ref sig .tc := ⟨.hbm, 36, rfl⟩
abbrev main_v6_14 : Ref sig .tc := ⟨.hbm, 37, rfl⟩
abbrev main_while0c_c_20 : Ref sig .tc := ⟨.hbm, 38, rfl⟩
abbrev main_while0c_v17 : Ref sig .tc := ⟨.hbm, 39, rfl⟩
abbrev main_while0b_c_20 : Ref sig .tc := ⟨.hbm, 40, rfl⟩
abbrev main_while0b_v17 : Ref sig .tc := ⟨.hbm, 41, rfl⟩
abbrev main_while0b_cst_21 : Ref sig .tc := ⟨.hbm, 42, rfl⟩
abbrev main_while0b_v18 : Ref sig .tc := ⟨.hbm, 43, rfl⟩
abbrev main_while0b_v19 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_v24 : Ref sig .tc := ⟨.hbm, 49, rfl⟩
abbrev main_while0b_v25 : Ref sig .tc := ⟨.hbm, 50, rfl⟩
abbrev main_while0b_v26 : Ref sig .tc := ⟨.hbm, 51, rfl⟩
abbrev main_while0b_v27 : Ref sig .tc := ⟨.hbm, 52, rfl⟩
abbrev main_while0b_v28 : Ref sig .tc := ⟨.hbm, 53, rfl⟩
abbrev main_while0b_v29 : Ref sig .tc := ⟨.hbm, 54, rfl⟩
abbrev main_while0b_v30 : Ref sig .tc := ⟨.hbm, 55, rfl⟩
abbrev main_while0b_v31 : Ref sig .tc := ⟨.hbm, 56, rfl⟩
abbrev main_while0b_v32 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_v36 : Ref sig .tc := ⟨.hbm, 61, rfl⟩
abbrev main_while0b_call1_v0 : Ref sig .tc := ⟨.hbm, 62, rfl⟩
abbrev main_while0b_v37 : Ref sig .tc := ⟨.hbm, 63, rfl⟩
abbrev main_while0b_v38 : Ref sig .tc := ⟨.hbm, 64, rfl⟩
abbrev main_while0b_cst_22 : Ref sig .tc := ⟨.hbm, 65, rfl⟩
abbrev main_while0b_call2_v0 : Ref sig .tc := ⟨.hbm, 66, rfl⟩
abbrev main_while0b_call2_v1 : Ref sig .tc := ⟨.hbm, 67, rfl⟩
abbrev main_while0b_call2_v2 : Ref sig .tc := ⟨.hbm, 68, rfl⟩
abbrev main_while0b_v39 : Ref sig .tc := ⟨.hbm, 69, rfl⟩
abbrev main_while0b_v40 : Ref sig .tc := ⟨.hbm, 70, rfl⟩
abbrev main_while0b_v41 : Ref sig .tc := ⟨.hbm, 71, rfl⟩
abbrev main_while0b_v42 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_cst_23 : Ref sig .tc := ⟨.hbm, 78, rfl⟩
abbrev main_while0b_v48 : Ref sig .tc := ⟨.hbm, 79, rfl⟩
abbrev main_while0b_v49 : Ref sig .tc := ⟨.hbm, 80, rfl⟩
abbrev main_while0b_cst_24 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_cst_25 : Ref sig .tc := ⟨.hbm, 85, rfl⟩
abbrev main_while0b_call3_v0 : Ref sig .tc := ⟨.hbm, 86, rfl⟩
abbrev main_while0b_call3_v1 : Ref sig .tc := ⟨.hbm, 87, rfl⟩
abbrev main_while0b_v53 : Ref sig .tc := ⟨.hbm, 88, rfl⟩
abbrev main_while0b_v54 : Ref sig .tc := ⟨.hbm, 89, rfl⟩
abbrev main_while0b_cst_26 : Ref sig .tc := ⟨.hbm, 90, rfl⟩
abbrev main_while0b_v55 : Ref sig .tc := ⟨.hbm, 91, rfl⟩
abbrev main_while0b_v56 : Ref sig .tc := ⟨.hbm, 92, rfl⟩
abbrev main_while0b_cst_27 : Ref sig .tc := ⟨.hbm, 93, rfl⟩
abbrev main_while0b_v57 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_cst_28 : Ref sig .tc := ⟨.hbm, 101, rfl⟩
abbrev main_while0b_call4_v0 : Ref sig .tc := ⟨.hbm, 102, rfl⟩
abbrev main_while0b_call4_v1 : Ref sig .tc := ⟨.hbm, 103, rfl⟩
abbrev main_while0b_call4_v2 : Ref sig .tc := ⟨.hbm, 104, rfl⟩
abbrev main_while0b_v64 : Ref sig .tc := ⟨.hbm, 105, rfl⟩
abbrev main_while0b_v65 : Ref sig .tc := ⟨.hbm, 106, rfl⟩
abbrev main_while0b_cst_29 : Ref sig .tc := ⟨.hbm, 107, rfl⟩
abbrev main_while0b_cst_30 : Ref sig .tc := ⟨.hbm, 108, rfl⟩
abbrev main_while0b_call5_v0 : Ref sig .tc := ⟨.hbm, 109, rfl⟩
abbrev main_while0b_call5_v1 : Ref sig .tc := ⟨.hbm, 110, rfl⟩
abbrev main_while0b_v66 : Ref sig .tc := ⟨.hbm, 111, rfl⟩
abbrev main_while0b_v67 : Ref sig .tc := ⟨.hbm, 112, rfl⟩
abbrev main_while0b_v68 : Ref sig .tc := ⟨.hbm, 113, rfl⟩
abbrev main_while0b_cst_31 : Ref sig .tc := ⟨.hbm, 114, rfl⟩
abbrev main_while0b_v69 : Ref sig .tc := ⟨.hbm, 115, rfl⟩
abbrev main_while0b_v70 : Ref sig .tc := ⟨.hbm, 116, rfl⟩
abbrev main_while0b_c_32 : Ref sig .tc := ⟨.hbm, 117, rfl⟩
abbrev main_while0b_v71 : Ref sig .tc := ⟨.hbm, 118, rfl⟩
abbrev main_v7 : Ref sig .tc := ⟨.hbm, 119, rfl⟩
abbrev main_v8 : Ref sig .tc := ⟨.hbm, 120, rfl⟩
abbrev main_v9 : Ref sig .tc := ⟨.hbm, 121, rfl⟩
abbrev main_v10 : Ref sig .tc := ⟨.hbm, 122, rfl⟩
abbrev main_v11 : Ref sig .tc := ⟨.hbm, 123, rfl⟩
abbrev main_v12 : Ref sig .tc := ⟨.hbm, 124, rfl⟩
abbrev main_v13 : Ref sig .tc := ⟨.hbm, 125, rfl⟩
abbrev main_v14 : Ref sig .tc := ⟨.hbm, 126, rfl⟩
abbrev main_v15 : Ref sig .tc := ⟨.hbm, 127, rfl⟩
abbrev main_v16 : Ref sig .tc := ⟨.hbm, 128, rfl⟩

abbrev nD : Nat := 1
abbrev τ : Topo := Topo.v7x

variable {F : FTy → Type} [FloatOps F]

abbrev main_while0_count : Scf.Loop 32 := ⟨0#32, 20#32, 1#32⟩
-- ==== Proof.KI.Common.lean ====
/-
  What the kernel's body computes, as functions of the contents of its input buffers, and the proof data of its one
  pipeline.

  The body keeps five arrays through its loop (`LS`): the accumulated halting probability `ah`, the ponder sum `spc`, the
  step count `sc` (one entry per batch row), the hidden state `hx` and its accumulation `ahx`. `first` is what they hold
  before the loop, `next` what one trip makes of them, `loop` the trips from a counter on, stopping as soon as every
  halting probability has reached the threshold (`full`), `last` what they hold when the loop is left. `outOf` and `pcOf`
  are what the body stores in the two result buffers.
-/
module

public import proofs.«01_k».proof.KernelIdeal
public import Idealize.ShloMosaic.Lib.Pipeline.Sound
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-! ## The arrays the loop carries -/

/-- The five arrays the loop reads and writes. -/
structure LS (F : FTy → Type) where
  /-- the accumulated halting probability of each row -/
  ah : Vec F S1x1024 .f32
  /-- the ponder sum of each row -/
  spc : Vec F S1x1024 .f32
  /-- the number of steps each row has taken -/
  sc : Vec F S1x1024 .f32
  /-- the hidden state, one column per row of the batch -/
  hx : Vec F S512x1024 .f32
  /-- the weighted sum of the hidden states -/
  ahx : Vec F S512x1024 .f32

/-- Whether every row's halting probability has reached the threshold: the loop's reason to stop early. -/
def full (ah : Vec F S1x1024 .f32) : BitVec 1 := Scalar.cmpf .oge (k0_pay5 ah) (Scalar.ofBits .f32 0x3F7D70A4#32)

/-- What the loop reads and never writes. -/
structure Env (F : FTy → Type) where
  /-- the flag's column of the input weights -/
  w : Vec F S512x1 .f32
  /-- the input's part of the preactivation, both biases included -/
  base : Vec F S512x1024 .f32
  /-- the recurrent weights -/
  whh : Vec F S512x512 .f32
  /-- the halting unit's weights -/
  wp : Vec F S1x512 .f32
  /-- the halting unit's bias -/
  bp : Elt F .f32

/-- The five arrays after the loop's trip at counter `i`. -/
def next (e : Env F) (i : BitVec 32) (s : LS F) : LS F where
  ah := k0_pay22 e.w e.bp i s.ah e.base e.whh s.hx e.wp
  spc := k0_pay18 s.ah s.spc
  sc := k0_pay4 (k0_pay17 s.ah) s.sc
  hx := k0_pay20 e.w i e.base e.whh s.hx
  ahx := k0_pay2 (k0_pay17 s.ah) (k0_pay19 e.w i e.base e.whh s.hx) (k0_pay23 e.w e.bp i s.ah e.base e.whh s.hx e.wp)
    (Scalar.ofBits .f32 0x3F800000#32) s.ahx

/-- The five arrays after at most `k` trips from counter `i`: the loop stops once `full` holds. -/
def loop (e : Env F) : ℕ → ℕ → LS F → LS F
  | 0, _, s => s
  | k + 1, i, s => if full s.ah = 1#1 then s else loop e k (i + 1) (next e (BitVec.ofNat 32 i) s)

theorem loop_zero (e : Env F) (i : ℕ) (s : LS F) : loop e 0 i s = s := rfl

theorem loop_stop (e : Env F) (k i : ℕ) (s : LS F) (h : full s.ah = 1#1) : loop e k i s = s := by
  cases k with
  | zero => rfl
  | succ k => rw [loop, if_pos h]

theorem loop_go (e : Env F) (k i : ℕ) (s : LS F) (h : ¬full s.ah = 1#1) :
    loop e (k + 1) i s = loop e k (i + 1) (next e (BitVec.ofNat 32 i) s) := by
  rw [loop, if_neg h]

/-- The nine inputs, as arrays. -/
structure Inp (F : FTy → Type) where
  x : Vec F S1024x64 .f32
  wih : Vec F S512x65 .f32
  bih : Vec F S512 .f32
  whh : Vec F S512x512 .f32
  bhh : Vec F S512 .f32
  wp : Vec F S1x512 .f32
  bp : Vec F S1 .f32
  wfc : Vec F S1x512 .f32
  bfc : Vec F S1 .f32

/-- The rectangle of the flag's column of the input weights, -/
abbrev rCol : Rect S512x65 := Rect.unit (s := S512x65) ![0, 64] S512x1.size inb_S512x65_S512x1_0_64

/-- and of the other columns. -/
abbrev rCols : Rect S512x65 := Rect.unit (s := S512x65) ![0, 0] S512x64.size inb_S512x65_S512x64_0_0

/-- The rectangle of the one word a bias buffer holds. -/
abbrev rOne : Rect S1 := Rect.unit (s := S1) ![0] S1.size inb_S1_S1_0

/-- The flag's column, read out of the weights' staging buffer, -/
def colOf (wih : Vec F S512x65 .f32) : Vec F S512x1 .f32 :=
  (Memref.whole cc0_stg1_0 : Memref sig .tc _ _ _).view.readAt (Elt F) rCol.toLoadRect wih

/-- and the other columns. -/
def colsOf (wih : Vec F S512x65 .f32) : Vec F S512x64 .f32 :=
  (Memref.whole cc0_stg1_0 : Memref sig .tc _ _ _).view.readAt (Elt F) rCols.toLoadRect wih

/-- The halting unit's bias, read out of its staging buffer, -/
def bpOf (bp : Vec F S1 .f32) : Elt F .f32 :=
  ((Memref.whole cc0_stg6_0).access rOne : View sig .tc _ _ _).read (Elt F) bp (Shape.Idx.first (numel1_S1.symm ▸ Nat.one_pos))

/-- and the output's. -/
def bfcOf (bfc : Vec F S1 .f32) : Elt F .f32 :=
  ((Memref.whole cc0_stg8_0).access rOne : View sig .tc _ _ _).read (Elt F) bfc (Shape.Idx.first (numel1_S1.symm ▸ Nat.one_pos))

/-- What the loop only reads, of the inputs. -/
def env (a : Inp F) : Env F where
  w := colOf a.wih
  base := k0_pay6 a.bih a.bhh (colsOf a.wih) a.x
  whh := a.whh
  wp := a.wp
  bp := bpOf a.bp

/-- The five arrays before the loop. -/
def first (a : Inp F) : LS F where
  ah := k0_pay9 (env a).bp (env a).base (env a).wp
  spc := k0_pay13
  sc := k0_pay14
  hx := k0_pay8 (env a).base
  ahx := k0_pay11 (k0_pay10 (env a).bp (env a).base (env a).wp)

/-- The five arrays when the loop is left. -/
def last (a : Inp F) : LS F := loop (env a) 19 1 (first a)

/-- The first result. -/
def outOf (a : Inp F) : Vec F S1024 .f32 := k0_pay16 a.wfc (last a).ahx (last a).sc (bfcOf a.bfc)

/-- The second result. -/
def pcOf (a : Inp F) : Vec F S1024 .f32 := k0_pay1 (last a).spc (Scalar.ofBits .f32 0x00000000#32)

/-- Storing the halting probabilities recasts them to their own shape: nothing changes, -/
theorem pay3_eq (v : Vec F S1x1024 .f32) : k0_pay3 v = v := shapeCast_self _ _

/-- nor does it before the loop. -/
theorem pay12_eq (v : Vec F S1x1024 .f32) : k0_pay12 v = v := shapeCast_self _ _

/-! ## The loop's counter and its test -/

/-- The test with trips to run is that the flag is down: -/
theorem test_lt : ∀ i < 20, ∀ d : BitVec 1,
    Scalar.andi (Scalar.cmpi .slt (BitVec.ofNat 32 i) 20#32) (Scalar.cmpi .eq (Scalar.extui d : BitVec 32) 0#32) = 1#1 ↔ ¬d = 1#1 := by
  decide

/-- with none it fails. -/
theorem test_end : ∀ d : BitVec 1,
    ¬Scalar.andi (Scalar.cmpi .slt (BitVec.ofNat 32 20) 20#32) (Scalar.cmpi .eq (Scalar.extui d : BitVec 32) 0#32) = 1#1 := by
  decide

/-- The step takes the counter to the next trip's. -/
theorem addi_succ : ∀ i < 20, Scalar.addi (BitVec.ofNat 32 i) 1#32 = BitVec.ofNat 32 (i + 1) := by decide

/-! ## The resource algebra, the launch memory, the proof data -/

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- Its embedding into the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

variable (m : (ℓ : Loc nD τ sig) → Buf (Elt F) ℓ)

/-- The nine inputs as the pipeline fetches them into the staging buffers: whole, through the windows' blocks at the one
    grid point. -/
def inp (c : Dev nD) : Inp F where
  x := (win0_0.blk t0_0).view.read (Elt F) (m ((c : Thread nD τ).loc main_arg0))
  wih := (win0_1.blk t0_0).view.read (Elt F) (m ((c : Thread nD τ).loc main_arg1))
  bih := (win0_2.blk t0_0).view.read (Elt F) (m ((c : Thread nD τ).loc main_arg2))
  whh := (win0_3.blk t0_0).view.read (Elt F) (m ((c : Thread nD τ).loc main_arg3))
  bhh := (win0_4.blk t0_0).view.read (Elt F) (m ((c : Thread nD τ).loc main_arg4))
  wp := (win0_5.blk t0_0).view.read (Elt F) (m ((c : Thread nD τ).loc main_arg5))
  bp := (win0_6.blk t0_0).view.read (Elt F) (m ((c : Thread nD τ).loc main_arg6))
  wfc := (win0_7.blk t0_0).view.read (Elt F) (m ((c : Thread nD τ).loc main_arg7))
  bfc := (win0_8.blk t0_0).view.read (Elt F) (m ((c : Thread nD τ).loc main_arg8))

/-- The proof data of the one pipeline on core `c`: the arrays as launched; after the body the nine input staging buffers
    as fetched and the two results' as computed; between points the six scratch buffers at anything; nothing owed; full
    shares. -/
def dats (_ : Fin 1) (c : Dev nD) : Dat τ (Elt F) Unit ℕ (UR nD τ) ℕ (cfg0 (F := F)) c where
  A w := m (((cfg0 (F := F)).win w).arr.view.loc (c : Thread nD τ))
  after w _ := match w with
    | ⟨0, _⟩ => (inp m c).x
    | ⟨1, _⟩ => (inp m c).wih
    | ⟨2, _⟩ => (inp m c).bih
    | ⟨3, _⟩ => (inp m c).whh
    | ⟨4, _⟩ => (inp m c).bhh
    | ⟨5, _⟩ => (inp m c).wp
    | ⟨6, _⟩ => (inp m c).bp
    | ⟨7, _⟩ => (inp m c).wfc
    | ⟨8, _⟩ => (inp m c).bfc
    | ⟨9, _⟩ => outOf (inp m c)
    | ⟨10, _⟩ => pcOf (inp m c)
  Φ _ := Pipeline.scopedRest spec0 c
  q _ := fullShare
  owed _ := 0

/-- The kernel's variants: the naturals, the trips still to run. -/
abbrev 𝒱₀ : Variants := Variants.nat

/-- Owning a whole buffer at contents `X` is its points-to at some contents equal to `X`. -/
theorem owns_whole_eq (c : Dev nD) (b : Ref sig .tc) (X : b.ty.Contents (Elt F)) :
    (owns (Ix := Unit) (Name := ℕ) (U := UR nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Proof.KI

end
-- ==== Proof.KI.Body.lean ====
/-
  The body obligation: at the one grid point the body, holding the eleven staging buffers and the six scratch buffers,
  leaves in the two result buffers what `outOf` and `pcOf` say and the nine input buffers as they were.

  The loop is a label that calls itself. It is answered by a specification at "`k` trips may still be run" (`spec`): from
  the five arrays at `s` and counter `i` it leaves them at `loop e k i s`. Its body meets it entered at variant `k`, by
  induction on `k` (`spec_le`): with the flag up or no trip to run the test fails and nothing is written; otherwise one
  trip takes the arrays to `next e i s` and the body's own call is answered by the induction hypothesis.
-/
module

public import proofs.«01_k».proof.Proof.KI.Common
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

/-! ### Whole-buffer accesses: each reads, or leaves, the contents themselves -/

/-- The zero offsets, however spelt. -/
theorem zero2 : (![0, 0] : Fin 2 → ℕ) = fun _ => 0 := funext fun a => by fin_cases a <;> rfl
theorem zero1 : (![0] : Fin 1 → ℕ) = fun _ => 0 := funext fun a => by fin_cases a; rfl

/-- The rectangle of a whole array of shape `S512x1024`. -/
abbrev wS512x1024 : Rect S512x1024 := Rect.unit (s := S512x1024) ![0, 0] S512x1024.size inb_S512x1024_S512x1024_0_0
/-- The rectangle of a whole array of shape `S1x1024`. -/
abbrev wS1x1024 : Rect S1x1024 := Rect.unit (s := S1x1024) ![0, 0] S1x1024.size inb_S1x1024_S1x1024_0_0
/-- The rectangle of a whole array of shape `S512x512`. -/
abbrev wS512x512 : Rect S512x512 := Rect.unit (s := S512x512) ![0, 0] S512x512.size inb_S512x512_S512x512_0_0
/-- The rectangle of a whole array of shape `S1x512`. -/
abbrev wS1x512 : Rect S1x512 := Rect.unit (s := S1x512) ![0, 0] S1x512.size inb_S1x512_S1x512_0_0
/-- The rectangle of a whole array of shape `S1024x64`. -/
abbrev wS1024x64 : Rect S1024x64 := Rect.unit (s := S1024x64) ![0, 0] S1024x64.size inb_S1024x64_S1024x64_0_0
/-- The rectangle of a whole array of shape `S512`. -/
abbrev wS512 : Rect S512 := Rect.unit (s := S512) ![0] S512.size inb_S512_S512_0
/-- The rectangle of a whole array of shape `S1024`. -/
abbrev wS1024 : Rect S1024 := Rect.unit (s := S1024) ![0] S1024.size inb_S1024_S1024_0

theorem ld_base (f : (cc0_scratch0 : Ref sig .tc).ty.Contents (Elt F)) :
    (Memref.whole cc0_scratch0 : Memref sig .tc _ _ _).view.readAt (Elt F) wS512x1024.toLoadRect f = f :=
  Memref.readAt_unit_zero (Elt F) cc0_scratch0 zero2 _ f
theorem st_base (f w : (cc0_scratch0 : Ref sig .tc).ty.Contents (Elt F)) :
    ((Memref.whole cc0_scratch0).access wS512x1024 : View sig .tc _ _ _).write (Elt F) f w Finset.univ = w :=
  Memref.write_access_unit_zero_univ (Elt F) cc0_scratch0 zero2 _ f w
theorem ld_hx (f : (cc0_scratch1 : Ref sig .tc).ty.Contents (Elt F)) :
    (Memref.whole cc0_scratch1 : Memref sig .tc _ _ _).view.readAt (Elt F) wS512x1024.toLoadRect f = f :=
  Memref.readAt_unit_zero (Elt F) cc0_scratch1 zero2 _ f
theorem st_hx (f w : (cc0_scratch1 : Ref sig .tc).ty.Contents (Elt F)) :
    ((Memref.whole cc0_scratch1).access wS512x1024 : View sig .tc _ _ _).write (Elt F) f w Finset.univ = w :=
  Memref.write_access_unit_zero_univ (Elt F) cc0_scratch1 zero2 _ f w
theorem ld_ahx (f : (cc0_scratch2 : Ref sig .tc).ty.Contents (Elt F)) :
    (Memref.whole cc0_scratch2 : Memref sig .tc _ _ _).view.readAt (Elt F) wS512x1024.toLoadRect f = f :=
  Memref.readAt_unit_zero (Elt F) cc0_scratch2 zero2 _ f
theorem st_ahx (f w : (cc0_scratch2 : Ref sig .tc).ty.Contents (Elt F)) :
    ((Memref.whole cc0_scratch2).access wS512x1024 : View sig .tc _ _ _).write (Elt F) f w Finset.univ = w :=
  Memref.write_access_unit_zero_univ (Elt F) cc0_scratch2 zero2 _ f w
theorem ld_ah (f : (cc0_scratch3 : Ref sig .tc).ty.Contents (Elt F)) :
    (Memref.whole cc0_scratch3 : Memref sig .tc _ _ _).view.readAt (Elt F) wS1x1024.toLoadRect f = f :=
  Memref.readAt_unit_zero (Elt F) cc0_scratch3 zero2 _ f
theorem st_ah (f w : (cc0_scratch3 : Ref sig .tc).ty.Contents (Elt F)) :
    ((Memref.whole cc0_scratch3).access wS1x1024 : View sig .tc _ _ _).write (Elt F) f w Finset.univ = w :=
  Memref.write_access_unit_zero_univ (Elt F) cc0_scratch3 zero2 _ f w
theorem ld_spc (f : (cc0_scratch4 : Ref sig .tc).ty.Contents (Elt F)) :
    (Memref.whole cc0_scratch4 : Memref sig .tc _ _ _).view.readAt (Elt F) wS1x1024.toLoadRect f = f :=
  Memref.readAt_unit_zero (Elt F) cc0_scratch4 zero2 _ f
theorem st_spc (f w : (cc0_scratch4 : Ref sig .tc).ty.Contents (Elt F)) :
    ((Memref.whole cc0_scratch4).access wS1x1024 : View sig .tc _ _ _).write (Elt F) f w Finset.univ = w :=
  Memref.write_access_unit_zero_univ (Elt F) cc0_scratch4 zero2 _ f w
theorem ld_sc (f : (cc0_scratch5 : Ref sig .tc).ty.Contents (Elt F)) :
    (Memref.whole cc0_scratch5 : Memref sig .tc _ _ _).view.readAt (Elt F) wS1x1024.toLoadRect f = f :=
  Memref.readAt_unit_zero (Elt F) cc0_scratch5 zero2 _ f
theorem st_sc (f w : (cc0_scratch5 : Ref sig .tc).ty.Contents (Elt F)) :
    ((Memref.whole cc0_scratch5).access wS1x1024 : View sig .tc _ _ _).write (Elt F) f w Finset.univ = w :=
  Memref.write_access_unit_zero_univ (Elt F) cc0_scratch5 zero2 _ f w
theorem ld_whh (f : (cc0_stg3_0 : Ref sig .tc).ty.Contents (Elt F)) :
    (Memref.whole cc0_stg3_0 : Memref sig .tc _ _ _).view.readAt (Elt F) wS512x512.toLoadRect f = f :=
  Memref.readAt_unit_zero (Elt F) cc0_stg3_0 zero2 _ f
theorem ld_wp (f : (cc0_stg5_0 : Ref sig .tc).ty.Contents (Elt F)) :
    (Memref.whole cc0_stg5_0 : Memref sig .tc _ _ _).view.readAt (Elt F) wS1x512.toLoadRect f = f :=
  Memref.readAt_unit_zero (Elt F) cc0_stg5_0 zero2 _ f
theorem ld_wfc (f : (cc0_stg7_0 : Ref sig .tc).ty.Contents (Elt F)) :
    (Memref.whole cc0_stg7_0 : Memref sig .tc _ _ _).view.readAt (Elt F) wS1x512.toLoadRect f = f :=
  Memref.readAt_unit_zero (Elt F) cc0_stg7_0 zero2 _ f
theorem ld_x (f : (cc0_stg0_0 : Ref sig .tc).ty.Contents (Elt F)) :
    (Memref.whole cc0_stg0_0 : Memref sig .tc _ _ _).view.readAt (Elt F) wS1024x64.toLoadRect f = f :=
  Memref.readAt_unit_zero (Elt F) cc0_stg0_0 zero2 _ f
theorem ld_bih (f : (cc0_stg2_0 : Ref sig .tc).ty.Contents (Elt F)) :
    (Memref.whole cc0_stg2_0 : Memref sig .tc _ _ _).view.readAt (Elt F) wS512.toLoadRect f = f :=
  Memref.readAt_unit_zero (Elt F) cc0_stg2_0 zero1 _ f
theorem ld_bhh (f : (cc0_stg4_0 : Ref sig .tc).ty.Contents (Elt F)) :
    (Memref.whole cc0_stg4_0 : Memref sig .tc _ _ _).view.readAt (Elt F) wS512.toLoadRect f = f :=
  Memref.readAt_unit_zero (Elt F) cc0_stg4_0 zero1 _ f
theorem st_out (f w : (cc0_stg9_0 : Ref sig .tc).ty.Contents (Elt F)) :
    ((Memref.whole cc0_stg9_0).access wS1024 : View sig .tc _ _ _).write (Elt F) f w Finset.univ = w :=
  Memref.write_access_unit_zero_univ (Elt F) cc0_stg9_0 zero1 _ f w
theorem st_pc (f w : (cc0_stg10_0 : Ref sig .tc).ty.Contents (Elt F)) :
    ((Memref.whole cc0_stg10_0).access wS1024 : View sig .tc _ _ _).write (Elt F) f w Finset.univ = w :=
  Memref.write_access_unit_zero_univ (Elt F) cc0_stg10_0 zero1 _ f w

/-! ### The loop's label: its specification, met by its body -/

section Label

variable (c : Dev nD) (e : Env F)

/-- The eight buffers the label's function reads and writes, held whole: the three it only reads at `e`'s arrays, the five
    it writes at `s`'s. -/
def held (s : LS F) : sProp 𝕄 :=
  iprop((((c : Thread nD τ).loc cc0_scratch0) ↦{fullShare} e.base) ∗ (((c : Thread nD τ).loc cc0_stg3_0) ↦{fullShare} e.whh)
    ∗ (((c : Thread nD τ).loc cc0_stg5_0) ↦{fullShare} e.wp) ∗ (((c : Thread nD τ).loc cc0_scratch3) ↦{fullShare} s.ah)
    ∗ (((c : Thread nD τ).loc cc0_scratch4) ↦{fullShare} s.spc) ∗ (((c : Thread nD τ).loc cc0_scratch5) ↦{fullShare} s.sc)
    ∗ (((c : Thread nD τ).loc cc0_scratch1) ↦{fullShare} s.hx) ∗ (((c : Thread nD τ).loc cc0_scratch2) ↦{fullShare} s.ahx))

/-- The label's specification with at most `k` trips to run from counter `i`: holding the buffers at `s`, it returns some
    pair of words (the caller learns nothing of them) and the buffers after those trips. -/
def spec (k i : ℕ) (s : LS F) : sWPT 𝕄 (BitVec 32 × BitVec 32) := do
  sWPT.consume (held c e s)
  let r ← sWPT.arbitrary
  sWPT.produce (held c e (loop e k i s))
  pure r

theorem spec_apply (k i : ℕ) (s : LS F) (K : BitVec 32 × BitVec 32 → sProp 𝕄) :
    spec c e k i s K = iprop(held c e s ∗ ∀ r : BitVec 32 × BitVec 32, (held c e (loop e k i s) -∗ K r)) := rfl

/-- The record the label is called with at counter `i` and flag `d`. -/
abbrev closure (i : ℕ) (d : BitVec 1) : Cc0While1 F :=
    ⟨Memref.whole cc0_scratch3, Memref.isWhole_whole _, Memref.whole cc0_scratch4, Memref.isWhole_whole _,
      Memref.whole cc0_scratch0, Memref.isWhole_whole _, e.w, Memref.whole cc0_stg3_0, Memref.isWhole_whole _,
      Memref.whole cc0_scratch1, Memref.isWhole_whole _, Memref.whole cc0_stg5_0, Memref.isWhole_whole _, e.bp,
      Memref.whole cc0_scratch2, Memref.isWhole_whole _, Memref.whole cc0_scratch5, Memref.isWhole_whole _,
      BitVec.ofNat 32 i, Scalar.extui d⟩

set_option maxHeartbeats 2000000 in
/-- The specification is met by the label's body entered at variant `k`, called at counter `20 - k` with the flag that
    says whether the halting probabilities are full. -/
theorem spec_le (E : Set ℕ) :
    ∀ k i, i + k = 20 → ∀ s K, spec c e k i s K
      ⊢ wp frame (wpE (defs₀ (F := F)) 𝒱₀ (c : Thread nD τ) (some k)) E
          (defs₀ (F := F) .tc 1 (closure e i (full s.ah))) K := by
  intro k
  induction k with
  | zero =>
    intro i hi s K
    obtain rfl : i = 20 := by omega
    rw [spec_apply]
    sl_whnfR [defs₀, Defs.onTc]
    unfold cc0_while1
    simp only [test_end, ↓reduceIte, Prog.pure_eq_ret]
    iintro ⟨H, Hk⟩
    rw [wp_ret]; imodintro
    iapply Hk
    rw [loop_zero]; iexact H
  | succ k ih =>
    intro i hi s K
    have hi20 : i < 20 := by omega
    rw [spec_apply]
    sl_whnfR [defs₀, Defs.onTc]
    simp only [cc0_while1_eq_skeleton]; unfold cc0_while1_skel
    simp only [test_lt i hi20]
    by_cases hf : full s.ah = 1#1
    · simp only [hf, not_true_eq_false, ↓reduceIte, Prog.pure_eq_ret]
      iintro ⟨H, Hk⟩
      rw [wp_ret]; imodintro
      iapply Hk
      rw [loop_stop e _ _ _ hf]; iexact H
    simp only [hf, not_false_eq_true, ↓reduceIte, k0_part3_eq_skeleton]
    unfold k0_part3_skel
    simp only [Prog.lift, Prog.bind_op, Prog.bind_ret, Prog.pure_eq_ret]
    unfold held
    iintro ⟨⟨Hb, Hw, Hp, Ha, Hs, Hc, Hh, Hx⟩, Hk⟩
    iapply (wp_load 𝒱₀ (c : Thread nD τ) (some (k + 1)) E (m := Memref.whole cc0_scratch3) (Finset.subset_univ _)) $$ Ha; iintro Ha
    rw [ld_ah]
    iapply (wp_load 𝒱₀ (c : Thread nD τ) (some (k + 1)) E (m := Memref.whole cc0_scratch4) (Finset.subset_univ _)) $$ Hs; iintro Hs
    rw [ld_spc]
    iapply (wp_load 𝒱₀ (c : Thread nD τ) (some (k + 1)) E (m := Memref.whole cc0_scratch4) (Finset.subset_univ _)) $$ Hs; iintro Hs
    iapply (wp_store 𝒱₀ (c : Thread nD τ) (some (k + 1)) E (m := Memref.whole cc0_scratch4) (r := wS1x1024) (Mk := Finset.univ) (Finset.subset_univ _)) $$ Hs; iintro Hs
    rw [st_spc]
    iapply (wp_load 𝒱₀ (c : Thread nD τ) (some (k + 1)) E (m := Memref.whole cc0_scratch0) (Finset.subset_univ _)) $$ Hb; iintro Hb
    rw [ld_base]
    iapply (wp_load 𝒱₀ (c : Thread nD τ) (some (k + 1)) E (m := Memref.whole cc0_stg3_0) (Finset.subset_univ _)) $$ Hw; iintro Hw
    rw [ld_whh]
    iapply (wp_load 𝒱₀ (c : Thread nD τ) (some (k + 1)) E (m := Memref.whole cc0_scratch1) (Finset.subset_univ _)) $$ Hh; iintro Hh
    rw [ld_hx]
    iapply (wp_load 𝒱₀ (c : Thread nD τ) (some (k + 1)) E (m := Memref.whole cc0_scratch1) (Finset.subset_univ _)) $$ Hh; iintro Hh
    iapply (wp_store 𝒱₀ (c : Thread nD τ) (some (k + 1)) E (m := Memref.whole cc0_scratch1) (r := wS512x1024) (Mk := Finset.univ) (Finset.subset_univ _)) $$ Hh; iintro Hh
    rw [st_hx]
    iapply (wp_load 𝒱₀ (c : Thread nD τ) (some (k + 1)) E (m := Memref.whole cc0_stg5_0) (Finset.subset_univ _)) $$ Hp; iintro Hp
    rw [ld_wp]
    iapply (wp_load 𝒱₀ (c : Thread nD τ) (some (k + 1)) E (m := Memref.whole cc0_scratch2) (Finset.subset_univ _)) $$ Hx; iintro Hx
    rw [ld_ahx]
    iapply (wp_load 𝒱₀ (c : Thread nD τ) (some (k + 1)) E (m := Memref.whole cc0_scratch2) (Finset.subset_univ _)) $$ Hx; iintro Hx
    iapply (wp_store 𝒱₀ (c : Thread nD τ) (some (k + 1)) E (m := Memref.whole cc0_scratch2) (r := wS512x1024) (Mk := Finset.univ) (Finset.subset_univ _)) $$ Hx; iintro Hx
    rw [st_ahx]
    iapply (wp_load 𝒱₀ (c : Thread nD τ) (some (k + 1)) E (m := Memref.whole cc0_scratch3) (Finset.subset_univ _)) $$ Ha; iintro Ha
    iapply (wp_store 𝒱₀ (c : Thread nD τ) (some (k + 1)) E (m := Memref.whole cc0_scratch3) (r := wS1x1024) (Mk := Finset.univ) (Finset.subset_univ _)) $$ Ha; iintro Ha
    rw [st_ah]
    iapply (wp_load 𝒱₀ (c : Thread nD τ) (some (k + 1)) E (m := Memref.whole cc0_scratch5) (Finset.subset_univ _)) $$ Hc; iintro Hc
    rw [ld_sc]
    iapply (wp_load 𝒱₀ (c : Thread nD τ) (some (k + 1)) E (m := Memref.whole cc0_scratch5) (Finset.subset_univ _)) $$ Hc; iintro Hc
    iapply (wp_store 𝒱₀ (c : Thread nD τ) (some (k + 1)) E (m := Memref.whole cc0_scratch5) (r := wS1x1024) (Mk := Finset.univ) (Finset.subset_univ _)) $$ Hc; iintro Hc
    rw [st_sc]
    rw [pay3_eq, addi_succ i hi20]
    -- the call of the label, through the specification with one trip fewer
    iapply (wp_call_spec 𝒱₀ (c : Thread nD τ) (some (k + 1)) E (spec c e k (i + 1) (next e (BitVec.ofNat 32 i) s)) k
      (fun u hu => by cases hu; exact Nat.lt_succ_self k) (ih (i + 1) (by omega) (next e (BitVec.ofNat 32 i) s)))
    rw [spec_apply]; unfold held
    isplitl [Hb Hw Hp Ha Hs Hc Hh Hx]
    · isplitl [Hb]; · iexact Hb
      isplitl [Hw]; · iexact Hw
      isplitl [Hp]; · iexact Hp
      isplitl [Ha]; · iexact Ha
      isplitl [Hs]; · iexact Hs
      isplitl [Hc]; · iexact Hc
      isplitl [Hh]; · iexact Hh
      iexact Hx
    iintro %r ⟨Hb, Hw, Hp, Ha, Hs, Hc, Hh, Hx⟩
    rw [wp_ret]; imodintro
    iapply Hk
    rw [loop_go e k i s hf]
    isplitl [Hb]; · iexact Hb
    isplitl [Hw]; · iexact Hw
    isplitl [Hp]; · iexact Hp
    isplitl [Ha]; · iexact Ha
    isplitl [Hs]; · iexact Hs
    isplitl [Hc]; · iexact Hc
    isplitl [Hh]; · iexact Hh
    iexact Hx

end Label

/-! ### The body obligation -/

variable (m : (ℓ : Loc nD τ sig) → Buf (Elt F) ℓ)

/-- A buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is called with at the one point: the scratch buffers at anything, the core's debts, the nine input
    staging buffers at their blocks and the two results' at anything. -/
def bodyPre (c : Dev nD) : sProp 𝕄 :=
  iprop((dats m 0 c).Φ (t0_0 : Fin (cfg0 (F := F)).N).castSucc ∗ (dats m 0 c).owesAt () (t0_0 : Fin (cfg0 (F := F)).N).castSucc
    ∗ (∃ d, stg c cc0_stg0_0 ((dats m 0 c).before (0 : Fin 11) t0_0 d))
    ∗ (∃ d, stg c cc0_stg1_0 ((dats m 0 c).before (1 : Fin 11) t0_0 d))
    ∗ (∃ d, stg c cc0_stg2_0 ((dats m 0 c).before (2 : Fin 11) t0_0 d))
    ∗ (∃ d, stg c cc0_stg3_0 ((dats m 0 c).before (3 : Fin 11) t0_0 d))
    ∗ (∃ d, stg c cc0_stg4_0 ((dats m 0 c).before (4 : Fin 11) t0_0 d))
    ∗ (∃ d, stg c cc0_stg5_0 ((dats m 0 c).before (5 : Fin 11) t0_0 d))
    ∗ (∃ d, stg c cc0_stg6_0 ((dats m 0 c).before (6 : Fin 11) t0_0 d))
    ∗ (∃ d, stg c cc0_stg7_0 ((dats m 0 c).before (7 : Fin 11) t0_0 d))
    ∗ (∃ d, stg c cc0_stg8_0 ((dats m 0 c).before (8 : Fin 11) t0_0 d))
    ∗ (∃ d, stg c cc0_stg9_0 ((dats m 0 c).before (9 : Fin 11) t0_0 d))
    ∗ (∃ d, stg c cc0_stg10_0 ((dats m 0 c).before (10 : Fin 11) t0_0 d)))

/-- And what it returns: the scratch buffers at anything, the debts as they were, the eleven staging buffers as `dats` says. -/
def bodyPost (c : Dev nD) : sProp 𝕄 :=
  iprop((dats m 0 c).Φ (t0_0 : Fin (cfg0 (F := F)).N).succ ∗ (dats m 0 c).owesAt () (t0_0 : Fin (cfg0 (F := F)).N).succ
    ∗ stg c cc0_stg0_0 ((inp m c).x)
    ∗ stg c cc0_stg1_0 ((inp m c).wih)
    ∗ stg c cc0_stg2_0 ((inp m c).bih)
    ∗ stg c cc0_stg3_0 ((inp m c).whh)
    ∗ stg c cc0_stg4_0 ((inp m c).bhh)
    ∗ stg c cc0_stg5_0 ((inp m c).wp)
    ∗ stg c cc0_stg6_0 ((inp m c).bp)
    ∗ stg c cc0_stg7_0 ((inp m c).wfc)
    ∗ stg c cc0_stg8_0 ((inp m c).bfc)
    ∗ stg c cc0_stg9_0 (outOf (inp m c))
    ∗ stg c cc0_stg10_0 (pcOf (inp m c)))

/-- The input staging buffers hold their arrays when the body is called: every window fetches at the point. -/
theorem before_0 (c : Dev nD) (d) : (dats m 0 c).before (0 : Fin 11) t0_0 d = (inp m c).x := if_pos (fetch0_0 (F := F) t0_0)
theorem before_1 (c : Dev nD) (d) : (dats m 0 c).before (1 : Fin 11) t0_0 d = (inp m c).wih := if_pos (fetch0_1 (F := F) t0_0)
theorem before_2 (c : Dev nD) (d) : (dats m 0 c).before (2 : Fin 11) t0_0 d = (inp m c).bih := if_pos (fetch0_2 (F := F) t0_0)
theorem before_3 (c : Dev nD) (d) : (dats m 0 c).before (3 : Fin 11) t0_0 d = (inp m c).whh := if_pos (fetch0_3 (F := F) t0_0)
theorem before_4 (c : Dev nD) (d) : (dats m 0 c).before (4 : Fin 11) t0_0 d = (inp m c).bhh := if_pos (fetch0_4 (F := F) t0_0)
theorem before_5 (c : Dev nD) (d) : (dats m 0 c).before (5 : Fin 11) t0_0 d = (inp m c).wp := if_pos (fetch0_5 (F := F) t0_0)
theorem before_6 (c : Dev nD) (d) : (dats m 0 c).before (6 : Fin 11) t0_0 d = (inp m c).bp := if_pos (fetch0_6 (F := F) t0_0)
theorem before_7 (c : Dev nD) (d) : (dats m 0 c).before (7 : Fin 11) t0_0 d = (inp m c).wfc := if_pos (fetch0_7 (F := F) t0_0)
theorem before_8 (c : Dev nD) (d) : (dats m 0 c).before (8 : Fin 11) t0_0 d = (inp m c).bfc := if_pos (fetch0_8 (F := F) t0_0)

set_option maxHeartbeats 4000000 in
/-- The body takes `bodyPre` to `bodyPost`. -/
theorem sound_body (c : Dev nD) (K : PUnit → sProp 𝕄) :
    iprop(bodyPre m c ∗ (bodyPost m c -∗ K ⟨⟩))
      ⊢ wp frame (wpE (defs₀ (F := F)) 𝒱₀ c none) Set.univ
          (cc0__act_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) K := by
  simp only [cc0__act_body_eq_skeleton]; unfold cc0__act_body_skel
  simp only [k0_part1_eq_skeleton, k0_part2_eq_skeleton]
  unfold k0_part1_skel k0_part2_skel
  simp only [smemLoad, smemLoadElt, Prog.lift, Prog.bind_op, Prog.bind_ret, Prog.pure_eq_ret]
  unfold bodyPre
  rw [show (dats m 0 c).Φ (t0_0 : Fin (cfg0 (F := F)).N).castSucc = Pipeline.scopedRest spec0 c from rfl, scopedRest0_eq]
  iintro ⟨⟨⟨⟨%g0, Hb⟩, ⟨%g1, Hh⟩, ⟨%g2, Hx⟩, ⟨%g3, Ha⟩, ⟨%g4, Hs⟩, ⟨%g5, Hc⟩⟩, Howes, ⟨%d0, %f0, %h0, Hi0⟩, ⟨%d1, %f1, %h1, Hi1⟩, ⟨%d2, %f2, %h2, Hi2⟩, ⟨%d3, %f3, %h3, Hi3⟩, ⟨%d4, %f4, %h4, Hi4⟩, ⟨%d5, %f5, %h5, Hi5⟩, ⟨%d6, %f6, %h6, Hi6⟩, ⟨%d7, %f7, %h7, Hi7⟩, ⟨%d8, %f8, %h8, Hi8⟩, ⟨%d9, %f9, %h9, Ho⟩, ⟨%d10, %f10, %h10, Hq⟩⟩, Hk⟩
  -- the input staging buffers hold their arrays: every window fetches at the point
  have e0 : f0 = (inp m c).x := h0.trans (before_0 m c d0)
  have e1 : f1 = (inp m c).wih := h1.trans (before_1 m c d1)
  have e2 : f2 = (inp m c).bih := h2.trans (before_2 m c d2)
  have e3 : f3 = (inp m c).whh := h3.trans (before_3 m c d3)
  have e4 : f4 = (inp m c).bhh := h4.trans (before_4 m c d4)
  have e5 : f5 = (inp m c).wp := h5.trans (before_5 m c d5)
  have e6 : f6 = (inp m c).bp := h6.trans (before_6 m c d6)
  have e7 : f7 = (inp m c).wfc := h7.trans (before_7 m c d7)
  have e8 : f8 = (inp m c).bfc := h8.trans (before_8 m c d8)
  subst e0 e1 e2 e3 e4 e5 e6 e7 e8
  iapply (wp_load_rect 𝒱₀ (c : Thread nD τ) none Set.univ (m := Memref.whole cc0_stg6_0) (r := rOne) (Finset.subset_univ _)) $$ Hi6; iintro Hi6
  iapply (wp_load 𝒱₀ (c : Thread nD τ) none Set.univ (m := Memref.whole cc0_stg2_0) (Finset.subset_univ _)) $$ Hi2; iintro Hi2
  rw [ld_bih]
  iapply (wp_load 𝒱₀ (c : Thread nD τ) none Set.univ (m := Memref.whole cc0_stg4_0) (Finset.subset_univ _)) $$ Hi4; iintro Hi4
  rw [ld_bhh]
  iapply (wp_load 𝒱₀ (c : Thread nD τ) none Set.univ (m := Memref.whole cc0_stg1_0) (Finset.subset_univ _)) $$ Hi1; iintro Hi1
  iapply (wp_load 𝒱₀ (c : Thread nD τ) none Set.univ (m := Memref.whole cc0_stg1_0) (Finset.subset_univ _)) $$ Hi1; iintro Hi1
  iapply (wp_load 𝒱₀ (c : Thread nD τ) none Set.univ (m := Memref.whole cc0_stg0_0) (Finset.subset_univ _)) $$ Hi0; iintro Hi0
  rw [ld_x]
  iapply (wp_load 𝒱₀ (c : Thread nD τ) none Set.univ (m := Memref.whole cc0_scratch0) (Finset.subset_univ _)) $$ Hb; iintro Hb
  iapply (wp_store 𝒱₀ (c : Thread nD τ) none Set.univ (m := Memref.whole cc0_scratch0) (r := wS512x1024) (Mk := Finset.univ) (Finset.subset_univ _)) $$ Hb; iintro Hb
  rw [st_base]
  iapply (wp_load 𝒱₀ (c : Thread nD τ) none Set.univ (m := Memref.whole cc0_scratch0) (Finset.subset_univ _)) $$ Hb; iintro Hb
  rw [ld_base]
  iapply (wp_load 𝒱₀ (c : Thread nD τ) none Set.univ (m := Memref.whole cc0_scratch1) (Finset.subset_univ _)) $$ Hh; iintro Hh
  iapply (wp_store 𝒱₀ (c : Thread nD τ) none Set.univ (m := Memref.whole cc0_scratch1) (r := wS512x1024) (Mk := Finset.univ) (Finset.subset_univ _)) $$ Hh; iintro Hh
  rw [st_hx]
  iapply (wp_load 𝒱₀ (c : Thread nD τ) none Set.univ (m := Memref.whole cc0_stg5_0) (Finset.subset_univ _)) $$ Hi5; iintro Hi5
  rw [ld_wp]
  iapply (wp_load 𝒱₀ (c : Thread nD τ) none Set.univ (m := Memref.whole cc0_scratch2) (Finset.subset_univ _)) $$ Hx; iintro Hx
  iapply (wp_store 𝒱₀ (c : Thread nD τ) none Set.univ (m := Memref.whole cc0_scratch2) (r := wS512x1024) (Mk := Finset.univ) (Finset.subset_univ _)) $$ Hx; iintro Hx
  rw [st_ahx]
  iapply (wp_load 𝒱₀ (c : Thread nD τ) none Set.univ (m := Memref.whole cc0_scratch3) (Finset.subset_univ _)) $$ Ha; iintro Ha
  iapply (wp_store 𝒱₀ (c : Thread nD τ) none Set.univ (m := Memref.whole cc0_scratch3) (r := wS1x1024) (Mk := Finset.univ) (Finset.subset_univ _)) $$ Ha; iintro Ha
  rw [st_ah]
  iapply (wp_load 𝒱₀ (c : Thread nD τ) none Set.univ (m := Memref.whole cc0_scratch4) (Finset.subset_univ _)) $$ Hs; iintro Hs
  iapply (wp_store 𝒱₀ (c : Thread nD τ) none Set.univ (m := Memref.whole cc0_scratch4) (r := wS1x1024) (Mk := Finset.univ) (Finset.subset_univ _)) $$ Hs; iintro Hs
  rw [st_spc]
  iapply (wp_load 𝒱₀ (c : Thread nD τ) none Set.univ (m := Memref.whole cc0_scratch5) (Finset.subset_univ _)) $$ Hc; iintro Hc
  iapply (wp_store 𝒱₀ (c : Thread nD τ) none Set.univ (m := Memref.whole cc0_scratch5) (r := wS1x1024) (Mk := Finset.univ) (Finset.subset_univ _)) $$ Hc; iintro Hc
  rw [st_sc]
  rw [pay12_eq]
  -- the loop: its label called at counter 1 through the specification with nineteen trips to run
  iapply (wp_call_spec 𝒱₀ (c : Thread nD τ) none Set.univ (spec c (env (inp m c)) 19 1 (first (inp m c))) 19
    (fun u hu => nomatch hu) (spec_le (F := F) c (env (inp m c)) Set.univ 19 1 rfl (first (inp m c))))
  rw [spec_apply]; unfold held
  isplitl [Hb Hi3 Hi5 Ha Hs Hc Hh Hx]
  · isplitl [Hb]; · iexact Hb
    isplitl [Hi3]; · iexact Hi3
    isplitl [Hi5]; · iexact Hi5
    isplitl [Ha]; · iexact Ha
    isplitl [Hs]; · iexact Hs
    isplitl [Hc]; · iexact Hc
    isplitl [Hh]; · iexact Hh
    iexact Hx
  iintro %r ⟨Hb, Hi3, Hi5, Ha, Hs, Hc, Hh, Hx⟩
  iapply (wp_load 𝒱₀ (c : Thread nD τ) none Set.univ (m := Memref.whole cc0_stg7_0) (Finset.subset_univ _)) $$ Hi7; iintro Hi7
  rw [ld_wfc]
  iapply (wp_load 𝒱₀ (c : Thread nD τ) none Set.univ (m := Memref.whole cc0_scratch2) (Finset.subset_univ _)) $$ Hx; iintro Hx
  rw [ld_ahx]
  iapply (wp_load 𝒱₀ (c : Thread nD τ) none Set.univ (m := Memref.whole cc0_scratch5) (Finset.subset_univ _)) $$ Hc; iintro Hc
  rw [ld_sc]
  iapply (wp_load_rect 𝒱₀ (c : Thread nD τ) none Set.univ (m := Memref.whole cc0_stg8_0) (r := rOne) (Finset.subset_univ _)) $$ Hi8; iintro Hi8
  iapply (wp_load 𝒱₀ (c : Thread nD τ) none Set.univ (m := Memref.whole cc0_stg9_0) (Finset.subset_univ _)) $$ Ho; iintro Ho
  iapply (wp_store 𝒱₀ (c : Thread nD τ) none Set.univ (m := Memref.whole cc0_stg9_0) (r := wS1024) (Mk := Finset.univ) (Finset.subset_univ _)) $$ Ho; iintro Ho
  rw [st_out]
  iapply (wp_load 𝒱₀ (c : Thread nD τ) none Set.univ (m := Memref.whole cc0_scratch4) (Finset.subset_univ _)) $$ Hs; iintro Hs
  rw [ld_spc]
  iapply (wp_load 𝒱₀ (c : Thread nD τ) none Set.univ (m := Memref.whole cc0_stg10_0) (Finset.subset_univ _)) $$ Hq; iintro Hq
  iapply (wp_store 𝒱₀ (c : Thread nD τ) none Set.univ (m := Memref.whole cc0_stg10_0) (r := wS1024) (Mk := Finset.univ) (Finset.subset_univ _)) $$ Hq; iintro Hq
  rw [st_pc]
  rw [wp_ret]; imodintro
  iapply Hk
  unfold bodyPost
  isplitl [Hb Hh Hx Ha Hs Hc]
  · rw [show (dats m 0 c).Φ (t0_0 ).succ = Pipeline.scopedRest spec0 c from rfl, scopedRest0_eq]
    isplitl [Hb]; · (iexists _; iexact Hb)
    isplitl [Hh]; · (iexists _; iexact Hh)
    isplitl [Hx]; · (iexists _; iexact Hx)
    isplitl [Ha]; · (iexists _; iexact Ha)
    isplitl [Hs]; · (iexists _; iexact Hs)
    iexists _; iexact Hc
  isplitl [Howes]; · iexact Howes
  isplitl [Hi0]
  · iexists _; isplitr; · (ipureintro; rfl)
    iexact Hi0
  isplitl [Hi1]
  · iexists _; isplitr; · (ipureintro; rfl)
    iexact Hi1
  isplitl [Hi2]
  · iexists _; isplitr; · (ipureintro; rfl)
    iexact Hi2
  isplitl [Hi3]
  · iexists _; isplitr; · (ipureintro; rfl)
    iexact Hi3
  isplitl [Hi4]
  · iexists _; isplitr; · (ipureintro; rfl)
    iexact Hi4
  isplitl [Hi5]
  · iexists _; isplitr; · (ipureintro; rfl)
    iexact Hi5
  isplitl [Hi6]
  · iexists _; isplitr; · (ipureintro; rfl)
    iexact Hi6
  isplitl [Hi7]
  · iexists _; isplitr; · (ipureintro; rfl)
    iexact Hi7
  isplitl [Hi8]
  · iexists _; isplitr; · (ipureintro; rfl)
    iexact Hi8
  isplitl [Ho]
  · iexists _; isplitr; · (ipureintro; rfl)
    iexact Ho
  iexists _; isplitr; · (ipureintro; rfl)
  iexact Hq

/-- After the body each staging buffer holds what `dats` says. -/
theorem after_0 (c : Dev nD) (t : Fin (cfg0 (F := F)).N) : (dats m 0 c).after 0 t = (inp m c).x := by dsimp only [dats]; rfl
theorem after_1 (c : Dev nD) (t : Fin (cfg0 (F := F)).N) : (dats m 0 c).after 1 t = (inp m c).wih := by dsimp only [dats]; rfl
theorem after_2 (c : Dev nD) (t : Fin (cfg0 (F := F)).N) : (dats m 0 c).after 2 t = (inp m c).bih := by dsimp only [dats]; rfl
theorem after_3 (c : Dev nD) (t : Fin (cfg0 (F := F)).N) : (dats m 0 c).after 3 t = (inp m c).whh := by dsimp only [dats]; rfl
theorem after_4 (c : Dev nD) (t : Fin (cfg0 (F := F)).N) : (dats m 0 c).after 4 t = (inp m c).bhh := by dsimp only [dats]; rfl
theorem after_5 (c : Dev nD) (t : Fin (cfg0 (F := F)).N) : (dats m 0 c).after 5 t = (inp m c).wp := by dsimp only [dats]; rfl
theorem after_6 (c : Dev nD) (t : Fin (cfg0 (F := F)).N) : (dats m 0 c).after 6 t = (inp m c).bp := by dsimp only [dats]; rfl
theorem after_7 (c : Dev nD) (t : Fin (cfg0 (F := F)).N) : (dats m 0 c).after 7 t = (inp m c).wfc := by dsimp only [dats]; rfl
theorem after_8 (c : Dev nD) (t : Fin (cfg0 (F := F)).N) : (dats m 0 c).after 8 t = (inp m c).bfc := by dsimp only [dats]; rfl
theorem after_9 (c : Dev nD) (t : Fin (cfg0 (F := F)).N) : (dats m 0 c).after 9 t = outOf (inp m c) := by dsimp only [dats]; rfl
theorem after_10 (c : Dev nD) (t : Fin (cfg0 (F := F)).N) : (dats m 0 c).after 10 t = pcOf (inp m c) := by dsimp only [dats]; rfl

theorem body_obligation (c : Dev nD) :
    BodyObligation (dats (F := F) m 0 c) (defs₀ (F := F)) 𝒱₀ () Set.univ := fun t => by
  rw [show t = (t0_0 : Fin (cfg0 (F := F)).N) from fin_N0 t]
  rw [show ∀ Φ : Fin (cfg0 (F := F)).W → sProp 𝕄, bigSep Finset.univ Φ = _ from fun Φ => bigSep_W0 Φ,
    show ∀ Φ : Fin (cfg0 (F := F)).W → sProp 𝕄, bigSep Finset.univ Φ = _ from fun Φ => bigSep_W0 Φ]
  sl_whnfR [defs₀, Defs.onTc]
  simp only [owns_whole_eq]
  simp only [show stage0_0 0 = Memref.whole cc0_stg0_0 from rfl, show stage0_1 0 = Memref.whole cc0_stg1_0 from rfl, show stage0_2 0 = Memref.whole cc0_stg2_0 from rfl, show stage0_3 0 = Memref.whole cc0_stg3_0 from rfl, show stage0_4 0 = Memref.whole cc0_stg4_0 from rfl, show stage0_5 0 = Memref.whole cc0_stg5_0 from rfl, show stage0_6 0 = Memref.whole cc0_stg6_0 from rfl, show stage0_7 0 = Memref.whole cc0_stg7_0 from rfl, show stage0_8 0 = Memref.whole cc0_stg8_0 from rfl, show stage0_9 0 = Memref.whole cc0_stg9_0 from rfl, show stage0_10 0 = Memref.whole cc0_stg10_0 from rfl]
  rw [after_0, after_1, after_2, after_3, after_4, after_5, after_6, after_7, after_8, after_9, after_10]
  iintro H
  iapply (sound_body m c fun _ => bodyPost m c)
  unfold bodyPre
  isplitl [H]; · iexact H
  iintro H; iexact H

end Cert.Proof.KI

end
-- ==== Proof.KI.Run.lean ====
/-
  The run: from any memory whose semaphore counters are zero every weakly fair execution of @main terminates, and every
  final state has the two result arrays at `outOf` and `pcOf` of the nine argument arrays, those unchanged, and every
  semaphore counter at zero — for any float values (`run`). The launch, the region and adequacy are the library's for a
  kernel with no semaphore of its own; the six scratch buffers are the pipeline's invariant, taken from and given back to
  the region as they come.
-/
module

public import proofs.«01_k».proof.Proof.KI.Body
public import Idealize.ShloMosaic.Lib.Pipeline.KitQuiescent

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

variable (m : (ℓ : Loc nD τ sig) → Buf (Elt F) ℓ) (ρ : Dev nD → PrngReg)

/-! ### The blocks are whole arrays -/

/-- A coordinate of a whole-array window's block, placed in the array, is itself. -/
theorem off_zero (n k : ℕ) : 0 * n + 1 * k = k := by omega

/-- So an input's block reads as the array itself. -/
theorem rd_0 (t : Fin grid0.N) (f : Vec F S1024x64 .f32) : (win0_0.blk t).view.read (Elt F) f = f :=
  funext fun j => congrArg f (funext fun a => Fin.ext (off_zero _ _))
theorem rd_1 (t : Fin grid0.N) (f : Vec F S512x65 .f32) : (win0_1.blk t).view.read (Elt F) f = f :=
  funext fun j => congrArg f (funext fun a => Fin.ext (off_zero _ _))
theorem rd_2 (t : Fin grid0.N) (f : Vec F S512 .f32) : (win0_2.blk t).view.read (Elt F) f = f :=
  funext fun j => congrArg f (funext fun a => Fin.ext (off_zero _ _))
theorem rd_3 (t : Fin grid0.N) (f : Vec F S512x512 .f32) : (win0_3.blk t).view.read (Elt F) f = f :=
  funext fun j => congrArg f (funext fun a => Fin.ext (off_zero _ _))
theorem rd_4 (t : Fin grid0.N) (f : Vec F S512 .f32) : (win0_4.blk t).view.read (Elt F) f = f :=
  funext fun j => congrArg f (funext fun a => Fin.ext (off_zero _ _))
theorem rd_5 (t : Fin grid0.N) (f : Vec F S1x512 .f32) : (win0_5.blk t).view.read (Elt F) f = f :=
  funext fun j => congrArg f (funext fun a => Fin.ext (off_zero _ _))
theorem rd_6 (t : Fin grid0.N) (f : Vec F S1 .f32) : (win0_6.blk t).view.read (Elt F) f = f :=
  funext fun j => congrArg f (funext fun a => Fin.ext (off_zero _ _))
theorem rd_7 (t : Fin grid0.N) (f : Vec F S1x512 .f32) : (win0_7.blk t).view.read (Elt F) f = f :=
  funext fun j => congrArg f (funext fun a => Fin.ext (off_zero _ _))
theorem rd_8 (t : Fin grid0.N) (f : Vec F S1 .f32) : (win0_8.blk t).view.read (Elt F) f = f :=
  funext fun j => congrArg f (funext fun a => Fin.ext (off_zero _ _))

/-- The nine argument arrays as launched. -/
def args (c : Dev nD) : Inp F :=
  ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8)⟩

/-- The inputs as fetched are the argument arrays. -/
theorem inp_eq (c : Dev nD) : inp m c = args m c := by
  unfold inp args
  rw [rd_0, rd_1, rd_2, rd_3, rd_4, rd_5, rd_6, rd_7, rd_8]

/-! ### The run -/

/-- The rounds library's launch element. -/
def u₀ : UR nD τ := initOf (Pipeline.cells (cfgs (F := F)) cellOf_inj) (Pipeline.launchToks (cfgs (F := F)) cellOf_inj)

theorem share_eq (c : Dev nD) (w : Fin (cfg0 (F := F)).W) : (dats m 0 c).share w = fullShare := by
  unfold Dat.share; split <;> rfl

/-- The invariant at the first point is the scratch buffers, as the region finds them, -/
theorem phi_in (c : Dev nD) : iprop(emp ∗ Pipeline.scopedRest spec0 c) ⊢ (dats m 0 c).Φ 0 := by
  rw [show (dats m 0 c).Φ 0 = Pipeline.scopedRest spec0 c from rfl]
  iintro ⟨-, H⟩; iexact H

/-- and at the last they are given back. -/
theorem phi_out (c : Dev nD) : (dats m 0 c).Φ (Fin.last (cfg0 (F := F)).N) ⊢ iprop(emp ∗ Pipeline.scopedRest spec0 c) := by
  rw [show (dats m 0 c).Φ (Fin.last (cfg0 (F := F)).N) = Pipeline.scopedRest spec0 c from rfl]
  iintro H; isplitr; · iempintro
  iexact H

/-- An array's contents after the run, as the library computes them. -/
def finalA (c : Dev nD) (w : Fin (cfg0 (F := F)).W) : Buf (Elt F) (((cfg0 (F := F)).win w).arr.view.loc (c : Thread nD τ)) :=
  (dats m 0 c).arrAt w (cfg0 (F := F)).N

/-- The run over the windows' arrays. -/
theorem run_main : θ_run defs (onTc (τ := τ) (main (F := F))) ⟨m, fun _ => 0, ρ⟩ (fun r =>
    (∀ (c : Dev nD) (w : Fin (cfg0 (F := F)).W), r.2.mem (((cfg0 (F := F)).win w).arr.view.loc (c : Thread nD τ)) = finalA m c w)
      ∧ r.2.sem = fun _ => 0) :=
  Pipeline.θ_run_region_noSem_kit_quiescent cfgs (dats m) () (0 : Fin 1) launch0 EP defs₀ 𝒱₀ m ρ main
    (hbody := body_obligation m) (hshare := share_eq m) (howed := fun _ _ => rfl)
    (u₀ := u₀) (hu₀ := BI.Entails.refl _)
    (V := fun c b => m ((c : Thread nD τ).loc b))
    (hmain := fun c Q => by
      rw [main_chain]
      simp only [Pipeline.chain, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := phi_in m) (hout := phi_out m)
    (QY := fun _ _ => True)
    (hY := fun c s' => by
      iintro ⟨-, -, HSI⟩; imodintro
      isplitr; · ipureintro; trivial
      iexact HSI)
    (hQ := fun _ h hz => ⟨fun c w => (h c).1 w, hz⟩)

/-! ### The arrays after the run -/

/-- The argument arrays are only read. -/
theorem final_0 (c : Dev nD) : finalA m c (0 : Fin 11) = m ((c : Thread nD τ).loc main_arg0) :=
  (dats (F := F) m 0 c).arrAt_in (0 : Fin 11) rfl _
theorem final_1 (c : Dev nD) : finalA m c (1 : Fin 11) = m ((c : Thread nD τ).loc main_arg1) :=
  (dats (F := F) m 0 c).arrAt_in (1 : Fin 11) rfl _
theorem final_2 (c : Dev nD) : finalA m c (2 : Fin 11) = m ((c : Thread nD τ).loc main_arg2) :=
  (dats (F := F) m 0 c).arrAt_in (2 : Fin 11) rfl _
theorem final_3 (c : Dev nD) : finalA m c (3 : Fin 11) = m ((c : Thread nD τ).loc main_arg3) :=
  (dats (F := F) m 0 c).arrAt_in (3 : Fin 11) rfl _
theorem final_4 (c : Dev nD) : finalA m c (4 : Fin 11) = m ((c : Thread nD τ).loc main_arg4) :=
  (dats (F := F) m 0 c).arrAt_in (4 : Fin 11) rfl _
theorem final_5 (c : Dev nD) : finalA m c (5 : Fin 11) = m ((c : Thread nD τ).loc main_arg5) :=
  (dats (F := F) m 0 c).arrAt_in (5 : Fin 11) rfl _
theorem final_6 (c : Dev nD) : finalA m c (6 : Fin 11) = m ((c : Thread nD τ).loc main_arg6) :=
  (dats (F := F) m 0 c).arrAt_in (6 : Fin 11) rfl _
theorem final_7 (c : Dev nD) : finalA m c (7 : Fin 11) = m ((c : Thread nD τ).loc main_arg7) :=
  (dats (F := F) m 0 c).arrAt_in (7 : Fin 11) rfl _
theorem final_8 (c : Dev nD) : finalA m c (8 : Fin 11) = m ((c : Thread nD τ).loc main_arg8) :=
  (dats (F := F) m 0 c).arrAt_in (8 : Fin 11) rfl _

/-- What the point writes back into result 0 is the point's block of `outOf`'s array; -/
theorem flushed_9 (c : Dev nD) (t : Fin (cfg0 (F := F)).N) :
    (dats m 0 c).flushed (9 : Fin 11) t = (((cfg0 (F := F)).win (9 : Fin 11)).blk t).view.read (Elt F) (outOf (inp m c)) :=
  funext fun j => (congrArg (outOf (inp m c)) (funext fun a => Fin.ext (off_zero _ _) : (win0_9.blk t).view.emb j = j)).symm

/-- the block is the whole array, -/
theorem covered_9 (i : S1024.Idx) :
    ∃ t : Fin (cfg0 (F := F)).N, ((cfg0 (F := F)).win (9 : Fin 11)).flush t = true ∧ i ∈ (((cfg0 (F := F)).win (9 : Fin 11)).blk t).view.set :=
  ⟨t0_0, flush0_9 (F := F) t0_0, by
    have h := (win0_9.blk t0_0).view.emb_mem_set i
    rwa [show (win0_9.blk t0_0).view.emb i = i from funext fun a => Fin.ext (off_zero _ _)] at h⟩

/-- so the array ends at that. -/
theorem final_9 (c : Dev nD) : finalA m c (9 : Fin 11) = outOf (args m c) :=
  ((dats (F := F) m 0 c).arrAt_eq_of_cover (9 : Fin 11) (outOf (inp m c)) (fun t _ => flushed_9 m c t) covered_9).trans (by rw [inp_eq])

/-- What the point writes back into result 1 is the point's block of `pcOf`'s array; -/
theorem flushed_10 (c : Dev nD) (t : Fin (cfg0 (F := F)).N) :
    (dats m 0 c).flushed (10 : Fin 11) t = (((cfg0 (F := F)).win (10 : Fin 11)).blk t).view.read (Elt F) (pcOf (inp m c)) :=
  funext fun j => (congrArg (pcOf (inp m c)) (funext fun a => Fin.ext (off_zero _ _) : (win0_10.blk t).view.emb j = j)).symm

/-- the block is the whole array, -/
theorem covered_10 (i : S1024.Idx) :
    ∃ t : Fin (cfg0 (F := F)).N, ((cfg0 (F := F)).win (10 : Fin 11)).flush t = true ∧ i ∈ (((cfg0 (F := F)).win (10 : Fin 11)).blk t).view.set :=
  ⟨t0_0, flush0_10 (F := F) t0_0, by
    have h := (win0_10.blk t0_0).view.emb_mem_set i
    rwa [show (win0_10.blk t0_0).view.emb i = i from funext fun a => Fin.ext (off_zero _ _)] at h⟩

/-- so the array ends at that. -/
theorem final_10 (c : Dev nD) : finalA m c (10 : Fin 11) = pcOf (args m c) :=
  ((dats (F := F) m 0 c).arrAt_eq_of_cover (10 : Fin 11) (pcOf (inp m c)) (fun t _ => flushed_10 m c t) covered_10).trans (by rw [inp_eq])

/-- The run, read at the result and argument arrays and the semaphore counters. -/
theorem run : θ_run defs (onTc (τ := τ) (main (F := F))) ⟨m, fun _ => 0, ρ⟩ (fun r =>
    (∀ c : Dev nD, r.2.mem ((c : Thread nD τ).loc main_v0_0) = outOf (args m c)
      ∧ r.2.mem ((c : Thread nD τ).loc main_v0_1) = pcOf (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) ∧ r.2.sem = fun _ => 0) :=
  (θ_run defs _ _).mono (fun r h => ⟨fun c => ⟨(h.1 c (9 : Fin 11)).trans (final_9 m c), (h.1 c (10 : Fin 11)).trans (final_10 m c),
    (h.1 c (0 : Fin 11)).trans (final_0 m c), (h.1 c (1 : Fin 11)).trans (final_1 m c), (h.1 c (2 : Fin 11)).trans (final_2 m c), (h.1 c (3 : Fin 11)).trans (final_3 m c), (h.1 c (4 : Fin 11)).trans (final_4 m c), (h.1 c (5 : Fin 11)).trans (final_5 m c), (h.1 c (6 : Fin 11)).trans (final_6 m c), (h.1 c (7 : Fin 11)).trans (final_7 m c), (h.1 c (8 : Fin 11)).trans (final_8 m c)⟩, h.2⟩) (run_main m ρ)

end Cert.Proof.KI

end
-- ==== Proof.KI.Values.lean ====
/-
  What the kernel computes, entry by entry, over the extended reals: the input weights' parts it reads, the five arrays
  before its loop (`first`) and after a trip (`next`), its two results, and what leaving the loop early says.
-/
module

public import proofs.«01_k».proof.Proof.KI.Common
public import Idealize.ShloMosaic.Lib.Pointwise

@[expose] public section

noncomputable section

namespace Cert.Proof.KI

open Cert.KernelIdeal Cert.KernelIdeal.Gen
open Idealize.ShloMosaic

/-! ## What is read of the inputs -/

/-- The kernel's first 64 columns of the input weights are the array's. -/
theorem colsOf_at (wih : FVec Ideal S512x65 .f32) (h : Fin 512) (k : Fin 64) :
    colsOf (F := Ideal) wih (ix2 h k) = wih (ix2 h k.castSucc) := by
  show wih (rCols.toLoadRect.idx (ix2 h k)) = _
  refine congrArg wih (funext fun a => Fin.ext ?_)
  match a with
  | ⟨0, _⟩ => show 0 + 1 * h.val = h.val; omega
  | ⟨1, _⟩ => show 0 + 1 * k.val = k.val; omega

/-- The flag's column is the array's last. -/
theorem colOf_at (wih : FVec Ideal S512x65 .f32) (h : Fin 512) :
    colOf (F := Ideal) wih (ix2 h 0) = wih (ix2 h (Fin.last 64)) := by
  show wih (rCol.toLoadRect.idx (ix2 h 0)) = _
  refine congrArg wih (funext fun a => Fin.ext ?_)
  match a with
  | ⟨0, _⟩ => show 0 + 1 * h.val = h.val; omega
  | ⟨1, _⟩ => rfl

/-- An array of one entry has one index. -/
theorem idx_one (i j : S1.Idx) : i = j := by
  funext a
  match a with
  | ⟨0, _⟩ => exact Subsingleton.elim (α := Fin 1) _ _

theorem bpOf_at (bp : FVec Ideal S1 .f32) : bpOf (F := Ideal) bp = bp (ix1 0) := congrArg bp (idx_one _ _)

theorem bfcOf_at (bfc : FVec Ideal S1 .f32) : bfcOf (F := Ideal) bfc = bfc (ix1 0) := congrArg bfc (idx_one _ _)

/-- The part of the recurrent unit's argument that no trip changes. -/
theorem base_at (a : Inp Ideal) (h : Fin 512) (b : Fin 1024) :
    (env a).base (ix2 h b)
      = (∑ k : Fin 64, a.wih (ix2 h k.castSucc) * a.x (ix2 b k)) + (a.bih (ix1 h) + a.bhh (ix1 h)) := by
  pointwise [env, k0_pay6]
  simp only [colsOf_at]

/-! ## Leaving the loop early -/

/-- A Boolean whose word is one is true. -/
theorem eq_true_of_word {p : Bool} (h : BitVec.ofBool p = 1#1) : p = true := by
  cases p
  · exact absurd h (by decide)
  · rfl

/-- Where the exit test holds, every row's accumulated probability has reached the threshold. -/
theorem full_at (ah : FVec Ideal S1x1024 .f32) (hf : full (F := Ideal) ah = 1#1) (b : Fin 1024) :
    Ideal.ofBits .f32 0x3F7D70A4#32 ≤ ah (ix2 0 b) := by
  revert hf
  pointwise [full, k0_pay5]
  intro hf
  have h := of_decide_eq_true (eq_true_of_word hf)
  exact (Finset.le_fold_min _).mp h |>.2 ((0, b) : Fin 1 × Fin 1024) (Finset.mem_univ _)

/-! ## Before the loop -/

/-- The halting probability of the first step, of the hidden state `hx`. -/
theorem first_hx (a : Inp Ideal) (h : Fin 512) (b : Fin 1024) :
    (first a).hx (ix2 h b) = Ideal.tanh ((env a).base (ix2 h b)) := by
  pointwise [first, k0_pay8, k0_pay7]

theorem first_ah (a : Inp Ideal) (b : Fin 1024) :
    (first a).ah (ix2 0 b)
      = Ideal.logistic ((∑ h : Fin 512, a.wp (ix2 0 h) * (first a).hx (ix2 h b)) + a.bp (ix1 0)) := by
  simp only [first_hx]
  pointwise [first, k0_pay9, k0_pay7]
  simp only [env, bpOf_at]

theorem first_ahx (a : Inp Ideal) (h : Fin 512) (b : Fin 1024) :
    (first a).ahx (ix2 h b)
      = (1 + ((first a).ah (ix2 0 b) - max ((first a).ah (ix2 0 b) - 1) 0)) * (first a).hx (ix2 h b) := by
  simp only [first_hx]
  pointwise [first, k0_pay11, k0_pay10, k0_pay7]

theorem first_spc (a : Inp Ideal) (b : Fin 1024) : (first a).spc (ix2 0 b) = 0 := by
  pointwise [first, k0_pay13]

theorem first_sc (a : Inp Ideal) (b : Fin 1024) : (first a).sc (ix2 0 b) = 1 := by
  pointwise [first, k0_pay14]

/-! ## After a trip -/

/-- The rows still running. -/
def live (x : EReal) : BitVec 1 := BitVec.ofBool (decide (x < Ideal.ofBits .f32 0x3F7D70A4#32))

variable (e : Env Ideal) (i : BitVec 32) (s : LS Ideal)

theorem next_hx (h : Fin 512) (b : Fin 1024) :
    (next e i s).hx (ix2 h b)
      = Ideal.tanh (e.base (ix2 h b) + ((i.toInt : ℝ) : EReal) * e.w (ix2 h 0)
          + ∑ k : Fin 512, e.whh (ix2 h k) * s.hx (ix2 k b)) := by
  pointwise [next, k0_pay20, k0_pay19]

/-- The halting probability a trip computes. -/
def prob (b : Fin 1024) : EReal :=
  Ideal.logistic ((∑ h : Fin 512, e.wp (ix2 0 h) * (next e i s).hx (ix2 h b)) + e.bp)

theorem next_ah (b : Fin 1024) :
    (next e i s).ah (ix2 0 b)
      = s.ah (ix2 0 b) + Scalar.select (live (s.ah (ix2 0 b))) (prob e i s b) 0 := by
  simp only [prob, next_hx]
  pointwise [next, k0_pay22, k0_pay21, k0_pay19, k0_pay17, live]

theorem next_prob (b : Fin 1024) : k0_pay21 e.w e.bp i e.base e.whh s.hx e.wp (ix2 0 b) = prob e i s b := by
  simp only [prob, next_hx]
  pointwise [k0_pay21, k0_pay19]

/-- The accumulated hidden state after a trip, of any new hidden state and coefficient. -/
theorem pay2_at (sel : IVec S1x1024 1) (p : FVec Ideal S1x1024 .f32) (hx ahx : FVec Ideal S512x1024 .f32) (h : Fin 512)
    (b : Fin 1024) :
    k0_pay2 (F := Ideal) sel hx p (Scalar.ofBits .f32 0x3F800000#32) ahx (ix2 h b)
      = ahx (ix2 h b) + Scalar.select (sel (ix2 0 b)) (1 + p (ix2 0 b)) 0 * hx (ix2 h b) := by
  pointwise [k0_pay2]

/-- The part of the halting probability that is not over one. -/
theorem pay23_at (b : Fin 1024) :
    k0_pay23 e.w e.bp i s.ah e.base e.whh s.hx e.wp (ix2 0 b)
      = k0_pay21 e.w e.bp i e.base e.whh s.hx e.wp (ix2 0 b)
        - max (k0_pay22 e.w e.bp i s.ah e.base e.whh s.hx e.wp (ix2 0 b) - 1) 0 := by
  pointwise [k0_pay23]

theorem next_ahx (h : Fin 512) (b : Fin 1024) :
    (next e i s).ahx (ix2 h b)
      = s.ahx (ix2 h b)
        + Scalar.select (live (s.ah (ix2 0 b))) (1 + (prob e i s b - max ((next e i s).ah (ix2 0 b) - 1) 0)) 0
          * (next e i s).hx (ix2 h b) := by
  have hs : k0_pay17 (F := Ideal) s.ah (ix2 0 b) = live (s.ah (ix2 0 b)) := by
    pointwise [k0_pay17, live]
  have hx : k0_pay19 e.w i e.base e.whh s.hx (ix2 h b) = (next e i s).hx (ix2 h b) := by
    pointwise [next, k0_pay20]
  have hp : k0_pay23 e.w e.bp i s.ah e.base e.whh s.hx e.wp (ix2 0 b)
      = prob e i s b - max ((next e i s).ah (ix2 0 b) - 1) 0 := by
    rw [← next_prob]
    exact pay23_at e i s b
  rw [← hs, ← hx, ← hp]
  exact pay2_at _ _ _ _ h b

theorem next_sc (b : Fin 1024) :
    (next e i s).sc (ix2 0 b) = s.sc (ix2 0 b) + Scalar.select (live (s.ah (ix2 0 b))) 1 0 := by
  pointwise [next, k0_pay4, k0_pay17, live]

theorem next_spc (b : Fin 1024) :
    (next e i s).spc (ix2 0 b) = Scalar.select (live (s.ah (ix2 0 b))) (s.ah (ix2 0 b)) (s.spc (ix2 0 b)) := by
  pointwise [next, k0_pay18, k0_pay17, live]

/-! ## The two results -/

/-- The first result, of any accumulated hidden state and step count. -/
theorem pay16_at (wfc : FVec Ideal S1x512 .f32) (ahx : FVec Ideal S512x1024 .f32) (sc : FVec Ideal S1x1024 .f32)
    (c : Ideal .f32) (b : Fin 1024) :
    k0_pay16 (F := Ideal) wfc ahx sc c (ix1 b)
      = Ideal.div (∑ h : Fin 512, wfc (ix2 0 h) * ahx (ix2 h b)) (sc (ix2 0 b)) + c := by
  pointwise [k0_pay16]

/-- The second result, of any ponder sum. -/
theorem pay1_at (spc : FVec Ideal S1x1024 .f32) (b : Fin 1024) :
    k0_pay1 (F := Ideal) spc (Scalar.ofBits .f32 0x00000000#32) (ix1 b) = 0 - spc (ix2 0 b) := by
  pointwise [k0_pay1]

theorem outOf_at (a : Inp Ideal) (b : Fin 1024) :
    outOf a (ix1 b)
      = Ideal.div (∑ h : Fin 512, a.wfc (ix2 0 h) * (last a).ahx (ix2 h b)) ((last a).sc (ix2 0 b)) + a.bfc (ix1 0) := by
  rw [← bfcOf_at a.bfc]
  exact pay16_at a.wfc (last a).ahx (last a).sc (bfcOf a.bfc) b

theorem pcOf_at (a : Inp Ideal) (b : Fin 1024) : pcOf a (ix1 b) = 0 - (last a).spc (ix2 0 b) :=
  pay1_at (last a).spc b

end Cert.Proof.KI

end
-- ==== Proof.Ref.Step.lean ====
/-
  One trip of the reference's loop, entry by entry.

  The reference's loop carries, besides its seven inputs, a trip number, the hidden state (`aHx`), the accumulated halting
  probability (`aAcc`), the accumulated hidden state (`aAhx`), the rows still running (`aSel`), the step count (`aSc`)
  and the ponder sum (`aSpc`). The generated run says that a trip is `STEP` of all buffers' contents. Here each carried
  array after `STEP` is read at one index, as a formula in the carried arrays before it. Last, what they hold when the
  loop is entered, and what the two results are of those it leaves.
-/
module

public import proofs.«01_k».proof.Proof.Gen.ReferenceIdeal.Run
public import Idealize.ShloMosaic.Lib.Pointwise

@[expose] public section

noncomputable section

namespace Cert.Proof.Ref

open Cert.ReferenceIdeal Cert.ReferenceIdeal.Gen Cert.ReferenceIdeal.Value
open Idealize.ShloMosaic Idealize.ShloMosaic.TcCoe Idealize.ShloMosaic.StableHlo

/-- The contents of all the program's buffers on one device. -/
abbrev Val := Valuation τ sig (Elt Ideal)

/-- The input rows. -/
def aX (V : Val) : FVec Ideal S1024x64 .f32 := V (Proc.devRef .tc main_v6_0)
/-- The input weights, the flag's column last. -/
def aWih (V : Val) : FVec Ideal S512x65 .f32 := V (Proc.devRef .tc main_v6_1)
/-- The input bias. -/
def aBih (V : Val) : FVec Ideal S512 .f32 := V (Proc.devRef .tc main_v6_2)
/-- The recurrent weights. -/
def aWhh (V : Val) : FVec Ideal S512x512 .f32 := V (Proc.devRef .tc main_v6_3)
/-- The recurrent bias. -/
def aBhh (V : Val) : FVec Ideal S512 .f32 := V (Proc.devRef .tc main_v6_4)
/-- The halting unit's weights. -/
def aWp (V : Val) : FVec Ideal S1x512 .f32 := V (Proc.devRef .tc main_v6_5)
/-- The halting unit's bias. -/
def aBp (V : Val) : FVec Ideal S1 .f32 := V (Proc.devRef .tc main_v6_6)
/-- The trip number. -/
def aCtr (V : Val) : IVec S_ 32 := V (Proc.devRef .tc main_v6_8)
/-- The hidden state. -/
def aHx (V : Val) : FVec Ideal S1024x512 .f32 := V (Proc.devRef .tc main_v6_9)
/-- The accumulated halting probability. -/
def aAcc (V : Val) : FVec Ideal S1024 .f32 := V (Proc.devRef .tc main_v6_10)
/-- The accumulated hidden state. -/
def aAhx (V : Val) : FVec Ideal S1024x512 .f32 := V (Proc.devRef .tc main_v6_11)
/-- The rows still running. -/
def aSel (V : Val) : IVec S1024 1 := V (Proc.devRef .tc main_v6_12)
/-- The step count. -/
def aSc (V : Val) : FVec Ideal S1024 .f32 := V (Proc.devRef .tc main_v6_13)
/-- The ponder sum. -/
def aSpc (V : Val) : FVec Ideal S1024 .f32 := V (Proc.devRef .tc main_v6_14)

/-- The halting probability a trip computes. -/
def newP (V : Val) : FVec Ideal S1024 .f32 := res_main_while0b_v52 V

/-! ## A trip keeps the inputs -/

theorem step_x (V : Val) : aX (STEP V) = aX V := STEP_main_v6_0 V
theorem step_wih (V : Val) : aWih (STEP V) = aWih V := STEP_main_v6_1 V
theorem step_bih (V : Val) : aBih (STEP V) = aBih V := STEP_main_v6_2 V
theorem step_whh (V : Val) : aWhh (STEP V) = aWhh V := STEP_main_v6_3 V
theorem step_bhh (V : Val) : aBhh (STEP V) = aBhh V := STEP_main_v6_4 V
theorem step_wp (V : Val) : aWp (STEP V) = aWp V := STEP_main_v6_5 V
theorem step_bp (V : Val) : aBp (STEP V) = aBp V := STEP_main_v6_6 V

/-! ## What a trip makes of the carried arrays, at one index -/

/-- The trip number goes up by one. -/
theorem step_ctr (V : Val) : aCtr (STEP V) ix0 = aCtr V ix0 + 1#32 := by
  rw [show aCtr (STEP V) = step_main_v6_8 V from STEP_main_v6_8 V]
  rfl

/-- The hidden state of a running row is the recurrent unit's output, of another row what it was. -/
theorem step_hx (V : Val) (b : Fin 1024) (h : Fin 512) :
    aHx (STEP V) (ix2 b h)
      = Scalar.select (aSel V (ix1 b))
          (Ideal.tanh
            (((∑ k : Fin 64, aX V (ix2 b k) * aWih V (ix2 h k.castSucc)
                + (((aCtr V ix0).toInt : ℝ) : EReal) * aWih V (ix2 h (Fin.last 64))) + aBih V (ix1 h))
              + ∑ k : Fin 512, aHx V (ix2 b k) * aWhh V (ix2 h k) + aBhh V (ix1 h)))
          (aHx V (ix2 b h)) := by
  rw [show aHx (STEP V) = step_main_v6_9 V from STEP_main_v6_9 V]
  pointwise [step_main_v6_9, res_main_while0b_v37, aX, aWih, aBih, aWhh, aBhh, aCtr, aHx, aSel, id_eq]
  rw [Fin.sum_univ_one]
  rfl

/-- The halting probability, of the new hidden state. -/
theorem newP_at (V : Val) (b : Fin 1024) :
    newP V (ix1 b)
      = Ideal.logistic (∑ h : Fin 512, aHx (STEP V) (ix2 b h) * aWp V (ix2 0 h) + aBp V (ix1 0)) := by
  rw [show aHx (STEP V) = step_main_v6_9 V from STEP_main_v6_9 V]
  pointwise [newP, step_main_v6_9, res_main_while0b_v52, aWp, aBp, id_eq]
  rfl

/-- A running row's accumulated probability grows by the halting probability. -/
theorem step_acc (V : Val) (b : Fin 1024) :
    aAcc (STEP V) (ix1 b) = aAcc V (ix1 b) + Scalar.select (aSel V (ix1 b)) (newP V (ix1 b)) 0 := by
  rw [show aAcc (STEP V) = step_main_v6_10 V from STEP_main_v6_10 V]
  pointwise [newP, step_main_v6_10, res_main_while0b_v54, aAcc, aSel, id_eq]

/-- A running row's accumulated hidden state grows by the new hidden state, and by that scaled by what of the halting
    probability is not over one. -/
theorem step_ahx (V : Val) (b : Fin 1024) (h : Fin 512) :
    aAhx (STEP V) (ix2 b h)
      = aAhx V (ix2 b h) + Scalar.select (aSel V (ix1 b)) (aHx (STEP V) (ix2 b h)) 0
        + Scalar.select (aSel V (ix1 b))
            ((newP V (ix1 b) - max (aAcc (STEP V) (ix1 b) - 1) 0) * aHx (STEP V) (ix2 b h)) 0 := by
  rw [show aAhx (STEP V) = step_main_v6_11 V from STEP_main_v6_11 V,
    show aHx (STEP V) = step_main_v6_9 V from STEP_main_v6_9 V,
    show aAcc (STEP V) = step_main_v6_10 V from STEP_main_v6_10 V]
  pointwise [newP, step_main_v6_9, step_main_v6_10, step_main_v6_11, aAhx, aSel, id_eq]

/-- A row goes on running as long as its accumulated probability is below the threshold. -/
theorem step_sel (V : Val) (b : Fin 1024) :
    aSel (STEP V) (ix1 b) = BitVec.ofBool (decide (aAcc (STEP V) (ix1 b) < Ideal.ofBits .f32 0x3F7D70A4#32)) := by
  rw [show aSel (STEP V) = step_main_v6_12 V from STEP_main_v6_12 V,
    show aAcc (STEP V) = step_main_v6_10 V from STEP_main_v6_10 V]
  pointwise [step_main_v6_10, step_main_v6_12, id_eq]

/-- A running row counts one more step. -/
theorem step_sc (V : Val) (b : Fin 1024) :
    aSc (STEP V) (ix1 b) = aSc V (ix1 b) + Scalar.select (aSel V (ix1 b)) 1 0 := by
  rw [show aSc (STEP V) = step_main_v6_13 V from STEP_main_v6_13 V]
  pointwise [step_main_v6_13, aSc, aSel, id_eq]

/-- A running row's ponder sum is its accumulated probability before the trip. -/
theorem step_spc (V : Val) (b : Fin 1024) :
    aSpc (STEP V) (ix1 b) = Scalar.select (aSel V (ix1 b)) (aAcc V (ix1 b)) (aSpc V (ix1 b)) := by
  rw [show aSpc (STEP V) = step_main_v6_14 V from STEP_main_v6_14 V]
  pointwise [step_main_v6_14, aSpc, aSel, aAcc, id_eq]

/-! ## The two results, of what the loop leaves -/

theorem out_at (V : Val) (b : Fin 1024) :
    (out_main_v16 V : FVec Ideal S1024 .f32) (ix1 b)
      = ∑ h : Fin 512, Ideal.div (aAhx V (ix2 b h)) (aSc V (ix1 b))
            * (V (Proc.devRef .tc main_arg7) : FVec Ideal S1x512 .f32) (ix2 0 h)
        + (V (Proc.devRef .tc main_arg8) : FVec Ideal S1 .f32) (ix1 0) := by
  pointwise [out_main_v16, aAhx, aSc]

theorem pc_at (V : Val) (b : Fin 1024) :
    (out_main_v7 V : FVec Ideal S1024 .f32) (ix1 b) = -aSpc V (ix1 b) := by
  pointwise [out_main_v7, aSpc]

/-! ## What the loop is entered with -/

section Entry

variable (m : (ℓ : Loc nD τ sig) → Buf (Elt Ideal) ℓ) (c : Dev nD)

/-- The contents the loop is entered with. -/
abbrev entry : Val := entryContents preI m c

theorem entry_x : aX (entry m c) = m ((c.tc : Thread nD τ).loc main_arg0) := by
  simp only [aX, entry, entryContents, afterL_cons, afterL_nil]
  after_reads_simp
  rfl

theorem entry_wih : aWih (entry m c) = m ((c.tc : Thread nD τ).loc main_arg1) := by
  simp only [aWih, entry, entryContents, afterL_cons, afterL_nil]
  after_reads_simp
  rfl

theorem entry_bih : aBih (entry m c) = m ((c.tc : Thread nD τ).loc main_arg2) := by
  simp only [aBih, entry, entryContents, afterL_cons, afterL_nil]
  after_reads_simp
  rfl

theorem entry_whh : aWhh (entry m c) = m ((c.tc : Thread nD τ).loc main_arg3) := by
  simp only [aWhh, entry, entryContents, afterL_cons, afterL_nil]
  after_reads_simp
  rfl

theorem entry_bhh : aBhh (entry m c) = m ((c.tc : Thread nD τ).loc main_arg4) := by
  simp only [aBhh, entry, entryContents, afterL_cons, afterL_nil]
  after_reads_simp
  rfl

theorem entry_wp : aWp (entry m c) = m ((c.tc : Thread nD τ).loc main_arg5) := by
  simp only [aWp, entry, entryContents, afterL_cons, afterL_nil]
  after_reads_simp
  rfl

theorem entry_bp : aBp (entry m c) = m ((c.tc : Thread nD τ).loc main_arg6) := by
  simp only [aBp, entry, entryContents, afterL_cons, afterL_nil]
  after_reads_simp
  rfl

/-- The loop starts at trip 0. -/
theorem entry_ctr : aCtr (entry m c) ix0 = 0#32 := by
  simp only [aCtr, entry, entryContents, afterL_cons, afterL_nil]
  after_reads_simp
  rfl

theorem entry_hx (b : Fin 1024) (h : Fin 512) : aHx (entry m c) (ix2 b h) = 0 := by
  simp only [aHx, entry, entryContents, afterL_cons, afterL_nil]
  after_reads_simp
  pointwise [id_eq]

theorem entry_acc (b : Fin 1024) : aAcc (entry m c) (ix1 b) = 0 := by
  simp only [aAcc, entry, entryContents, afterL_cons, afterL_nil]
  after_reads_simp
  pointwise [id_eq]

theorem entry_ahx (b : Fin 1024) (h : Fin 512) : aAhx (entry m c) (ix2 b h) = 0 := by
  simp only [aAhx, entry, entryContents, afterL_cons, afterL_nil]
  after_reads_simp
  pointwise [id_eq]

theorem entry_sel (b : Fin 1024) : aSel (entry m c) (ix1 b) = 1#1 := by
  simp only [aSel, entry, entryContents, afterL_cons, afterL_nil]
  after_reads_simp
  pointwise [id_eq]

theorem entry_sc (b : Fin 1024) : aSc (entry m c) (ix1 b) = 0 := by
  simp only [aSc, entry, entryContents, afterL_cons, afterL_nil]
  after_reads_simp
  pointwise [id_eq]

theorem entry_spc (b : Fin 1024) : aSpc (entry m c) (ix1 b) = 0 := by
  simp only [aSpc, entry, entryContents, afterL_cons, afterL_nil]
  after_reads_simp
  pointwise [id_eq]

end Entry

end Cert.Proof.Ref

end
-- ==== Proof.Scalars.lean ====
/-
  Facts about extended reals that the two programs' equality rests on. A hyperbolic tangent is a real number, so it can be
  taken out of a sum whatever the other factor is; a positive real divides a sum term by term.
-/
module

public import Idealize.ShloMosaic.PureOps.Ideal
public import Idealize.ShloMosaic.PureOps.Ideal.Laws

@[expose] public section

noncomputable section

namespace Cert.Proof

open Idealize.ShloMosaic

/-- A hyperbolic tangent is a real number, at the infinities too. -/
theorem tanh_real (x : EReal) : ∃ r : ℝ, Ideal.tanh x = (r : EReal) := by
  induction x with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- One more time a real number is that number once and the rest of the times. -/
theorem one_add_mul_real (p : EReal) (r : ℝ) : (1 + p) * (r : EReal) = r + p * r := by
  induction p with
  | bot =>
    rw [EReal.add_bot]
    rcases lt_trichotomy r 0 with h | h | h
    · rw [EReal.bot_mul_coe_of_neg h, EReal.coe_add_top]
    · subst h; simp
    · rw [EReal.bot_mul_coe_of_pos h, EReal.add_bot]
  | top =>
    rw [← EReal.coe_one, EReal.coe_add_top]
    rcases lt_trichotomy r 0 with h | h | h
    · rw [EReal.top_mul_coe_of_neg h, EReal.add_bot]
    · subst h; simp
    · rw [EReal.top_mul_coe_of_pos h, EReal.coe_add_top]
  | coe p => rw [← EReal.coe_one]; norm_cast; ring

/-- A nonnegative real factor distributes over a sum of extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih,
      EReal.right_distrib_of_nonneg_of_ne_top (EReal.coe_nonneg.mpr hc) (EReal.coe_ne_top c)]

/-- Dividing every entry by one positive real before a weighted sum divides the weighted sum. -/
theorem sum_div_mul {ι : Type} [Fintype ι] (f w : ι → EReal) {n : ℝ} (hn : 0 < n) :
    ∑ i, Ideal.div (f i) (n : EReal) * w i = Ideal.div (∑ i, w i * f i) (n : EReal) := by
  rw [Ideal.div_coe hn.ne', sum_mul_real _ _ (by positivity)]
  refine Finset.sum_congr rfl fun i _ => ?_
  rw [Ideal.div_coe hn.ne', mul_comm (w i) (f i), mul_assoc, mul_assoc, mul_comm (w i)]

/-- A selection's word is one or zero. -/
theorem word_cases (c : BitVec 1) : c = 1#1 ∨ c = 0#1 := by
  revert c; decide

theorem select_yes {α : Type} (a b : α) : Scalar.select 1#1 a b = a := rfl

theorem select_no {α : Type} (a b : α) : Scalar.select 0#1 a b = b := rfl

end Cert.Proof

end
-- ==== Proof.Agree.lean ====
/-
  The kernel's loop and the reference's, side by side.

  `Agree s V` says that the kernel's arrays `s` and the reference's carried arrays in `V` hold the same accumulated
  probability, rows still running, accumulated hidden state, step count and ponder sum. `Inv a k s V` says besides that the
  reference is at trip `k` of the inputs `a`, and that the two hidden states agree on the rows still running: the kernel
  overwrites the hidden state of every row, the reference that of the running rows only.

  The step before the kernel's loop makes `Inv` of the contents the reference's loop is entered with (`first_inv`); a trip
  of both keeps it (`next_inv`). Where the kernel leaves its loop no row is running, and the reference's remaining trips
  keep everything `Agree` speaks of (`stay`). So `Agree` holds at the end of both loops (`end_agree`).
-/
module

public import proofs.«01_k».proof.Proof.KI.Values
public import proofs.«01_k».proof.Proof.Ref.Step
public import proofs.«01_k».proof.Proof.Scalars

@[expose] public section

noncomputable section

namespace Cert.Proof

open Idealize.ShloMosaic
open Cert.Proof.KI Cert.Proof.Ref
open Cert.ReferenceIdeal.Value (STEP)

/-- The reference's inputs are the kernel's. -/
structure Args (a : Inp Ideal) (V : Val) : Prop where
  x : aX V = a.x
  wih : aWih V = a.wih
  bih : aBih V = a.bih
  whh : aWhh V = a.whh
  bhh : aBhh V = a.bhh
  wp : aWp V = a.wp
  bp : aBp V = a.bp

/-- What the results are made of is the same on both sides. -/
structure Agree (s : LS Ideal) (V : Val) : Prop where
  acc : ∀ b, aAcc V (ix1 b) = s.ah (ix2 0 b)
  sel : ∀ b, aSel V (ix1 b) = live (s.ah (ix2 0 b))
  ahx : ∀ b h, aAhx V (ix2 b h) = s.ahx (ix2 h b)
  sc : ∀ b, aSc V (ix1 b) = s.sc (ix2 0 b)
  spc : ∀ b, aSpc V (ix1 b) = s.spc (ix2 0 b)
  pos : ∀ b, ∃ n : ℝ, 0 < n ∧ s.sc (ix2 0 b) = (n : EReal)

/-- Both sides are at trip `k` of the inputs `a`. -/
structure Inv (a : Inp Ideal) (k : ℕ) (s : LS Ideal) (V : Val) : Prop where
  args : Args a V
  ctr : aCtr V ix0 = BitVec.ofNat 32 k
  agree : Agree s V
  hx : ∀ b, live (s.ah (ix2 0 b)) = 1#1 → ∀ h, aHx V (ix2 b h) = s.hx (ix2 h b)

theorem args_step {a : Inp Ideal} {V : Val} (h : Args a V) : Args a (STEP V) where
  x := (step_x V).trans h.x
  wih := (step_wih V).trans h.wih
  bih := (step_bih V).trans h.bih
  whh := (step_whh V).trans h.whh
  bhh := (step_bhh V).trans h.bhh
  wp := (step_wp V).trans h.wp
  bp := (step_bp V).trans h.bp

/-- The recurrent unit's argument: the kernel adds the two biases first and the flag's share after them, the reference
    the flag's share, a bias, the recurrent share and the other bias. -/
theorem arg_eq {x y f g p q : EReal} {r r' : EReal} (hx : x = y) (hr : r = r') (hf : f = g) :
    (x + f + p) + r + q = (y + (p + q)) + g + r' := by
  subst hx hr hf
  ac_rfl

/-- The weighted input of row `b`, on both sides. -/
theorem input_eq {a : Inp Ideal} {V : Val} (h : Args a V) (b : Fin 1024) (j : Fin 512) :
    ∑ k : Fin 64, aX V (ix2 b k) * aWih V (ix2 j k.castSucc)
      = ∑ k : Fin 64, a.wih (ix2 j k.castSucc) * a.x (ix2 b k) := by
  rw [h.x, h.wih]
  exact Finset.sum_congr rfl fun k _ => mul_comm _ _

/-- The halting probability, on both sides, where the new hidden states agree on the row. -/
theorem prob_eq {a : Inp Ideal} {V : Val} (h : Args a V) (b : Fin 1024) (t : Fin 512 → EReal)
    (ht : ∀ j, aHx (STEP V) (ix2 b j) = t j) :
    newP V (ix1 b) = Ideal.logistic ((∑ j : Fin 512, a.wp (ix2 0 j) * t j) + a.bp (ix1 0)) := by
  rw [newP_at, h.wp, h.bp]
  refine congrArg (fun z => Ideal.logistic (z + a.bp (ix1 0))) (Finset.sum_congr rfl fun j _ => ?_)
  rw [ht, mul_comm]

/-! ## The step before the kernel's loop -/

/-- What the reference's loop is entered with, beside the inputs. -/
structure Start (V : Val) : Prop where
  ctr : aCtr V ix0 = 0#32
  hx : ∀ b h, aHx V (ix2 b h) = 0
  acc : ∀ b, aAcc V (ix1 b) = 0
  ahx : ∀ b h, aAhx V (ix2 b h) = 0
  sel : ∀ b, aSel V (ix1 b) = 1#1
  sc : ∀ b, aSc V (ix1 b) = 0
  spc : ∀ b, aSpc V (ix1 b) = 0

section First

variable {a : Inp Ideal} {V : Val} (h : Args a V) (st : Start V)
include h st

/-- The first hidden state. -/
theorem first_hx_eq (b : Fin 1024) (j : Fin 512) : aHx (STEP V) (ix2 b j) = (first a).hx (ix2 j b) := by
  rw [step_hx, st.sel, select_yes, first_hx, base_at]
  refine congrArg Ideal.tanh ?_
  have hz : ∑ k : Fin 512, aHx V (ix2 b k) * aWhh V (ix2 j k) = 0 :=
    Finset.sum_eq_zero fun k _ => by rw [st.hx, zero_mul]
  rw [arg_eq (input_eq h b j) hz rfl, st.ctr, h.bih, h.bhh]
  simp

/-- The first halting probability. -/
theorem first_p_eq (b : Fin 1024) : newP V (ix1 b) = (first a).ah (ix2 0 b) := by
  rw [first_ah]
  exact prob_eq h b (fun j => (first a).hx (ix2 j b)) fun j => first_hx_eq h st b j

/-- The first accumulated probability. -/
theorem first_acc_eq (b : Fin 1024) : aAcc (STEP V) (ix1 b) = (first a).ah (ix2 0 b) := by
  rw [step_acc, st.acc, st.sel, select_yes, first_p_eq h st, zero_add]

/-- The step before the kernel's loop is the reference's first trip. -/
theorem first_inv : Inv a 1 (first a) (STEP V) where
  args := args_step h
  ctr := by rw [step_ctr, st.ctr]; rfl
  agree :=
    { acc := first_acc_eq h st
      sel := fun b => by rw [step_sel, first_acc_eq h st]; rfl
      ahx := fun b j => by
        obtain ⟨r, hr⟩ := tanh_real ((env a).base (ix2 j b))
        rw [step_ahx, st.sel, select_yes, select_yes, st.ahx, zero_add, first_hx_eq h st, first_acc_eq h st,
          first_p_eq h st, first_ahx, first_hx, hr, one_add_mul_real]
      sc := fun b => by rw [step_sc, st.sel, select_yes, st.sc, zero_add, first_sc]
      spc := fun b => by rw [step_spc, st.sel, select_yes, st.acc, first_spc]
      pos := fun b => ⟨1, one_pos, by rw [first_sc, EReal.coe_one]⟩ }
  hx := fun b _ j => first_hx_eq h st b j

end First

/-! ## A trip of both loops -/

section Next

variable {a : Inp Ideal} {k : ℕ} {s : LS Ideal} {V : Val} (v : Inv a k s V)
include v

/-- The new hidden state of a running row. -/
theorem next_hx_eq (b : Fin 1024) (hb : live (s.ah (ix2 0 b)) = 1#1) (j : Fin 512) :
    aHx (STEP V) (ix2 b j) = (next (env a) (BitVec.ofNat 32 k) s).hx (ix2 j b) := by
  rw [step_hx, v.agree.sel, hb, select_yes, next_hx, base_at]
  refine congrArg Ideal.tanh ?_
  have hr : ∑ l : Fin 512, aHx V (ix2 b l) * aWhh V (ix2 j l) = ∑ l : Fin 512, (env a).whh (ix2 j l) * s.hx (ix2 l b) := by
    rw [v.args.whh]
    exact Finset.sum_congr rfl fun l _ => by rw [v.hx b hb l, mul_comm]; rfl
  have hf : (((aCtr V ix0).toInt : ℝ) : EReal) * aWih V (ix2 j (Fin.last 64))
      = (((BitVec.ofNat 32 k).toInt : ℝ) : EReal) * (env a).w (ix2 j 0) := by
    rw [v.ctr, v.args.wih]
    exact congrArg _ (colOf_at a.wih j).symm
  rw [arg_eq (input_eq v.args b j) hr hf, v.args.bih, v.args.bhh]

/-- The halting probability of a running row. -/
theorem next_p_eq (b : Fin 1024) (hb : live (s.ah (ix2 0 b)) = 1#1) :
    newP V (ix1 b) = prob (env a) (BitVec.ofNat 32 k) s b := by
  rw [prob_eq v.args b (fun j => (next (env a) (BitVec.ofNat 32 k) s).hx (ix2 j b)) fun j => next_hx_eq v b hb j, prob,
    ← bpOf_at a.bp]
  rfl

/-- The accumulated probability. -/
theorem next_acc_eq (b : Fin 1024) : aAcc (STEP V) (ix1 b) = (next (env a) (BitVec.ofNat 32 k) s).ah (ix2 0 b) := by
  rw [step_acc, next_ah, v.agree.acc, v.agree.sel]
  rcases word_cases (live (s.ah (ix2 0 b))) with hb | hb
  · rw [hb, select_yes, select_yes, next_p_eq v b hb]
  · rw [hb, select_no, select_no]

/-- The accumulated hidden state. -/
theorem next_ahx_eq (b : Fin 1024) (j : Fin 512) :
    aAhx (STEP V) (ix2 b j) = (next (env a) (BitVec.ofNat 32 k) s).ahx (ix2 j b) := by
  rw [step_ahx, next_ahx, v.agree.ahx, v.agree.sel]
  rcases word_cases (live (s.ah (ix2 0 b))) with hb | hb
  · obtain ⟨r, hr⟩ := tanh_real ((env a).base (ix2 j b)
      + (((BitVec.ofNat 32 k).toInt : ℝ) : EReal) * (env a).w (ix2 j 0)
      + ∑ l : Fin 512, (env a).whh (ix2 j l) * s.hx (ix2 l b))
    rw [hb, select_yes, select_yes, select_yes, next_hx_eq v b hb, next_acc_eq v, next_p_eq v b hb, next_hx, hr,
      one_add_mul_real, add_assoc]
  · rw [hb, select_no, select_no, select_no, zero_mul, add_zero]

/-- A row that was not running is not running after the trip. -/
theorem next_live (b : Fin 1024) (hb : live ((next (env a) (BitVec.ofNat 32 k) s).ah (ix2 0 b)) = 1#1) :
    live (s.ah (ix2 0 b)) = 1#1 := by
  rcases word_cases (live (s.ah (ix2 0 b))) with h | h
  · exact h
  · rw [next_ah, h, select_no, add_zero, h] at hb
    exact absurd hb (by decide)

/-- A trip of both loops keeps the two sides together. -/
theorem next_inv : Inv a (k + 1) (next (env a) (BitVec.ofNat 32 k) s) (STEP V) where
  args := args_step v.args
  ctr := by rw [step_ctr, v.ctr, BitVec.ofNat_add]
  agree :=
    { acc := next_acc_eq v
      sel := fun b => by rw [step_sel, next_acc_eq v]; rfl
      ahx := next_ahx_eq v
      sc := fun b => by rw [step_sc, next_sc, v.agree.sc, v.agree.sel]
      spc := fun b => by rw [step_spc, next_spc, v.agree.spc, v.agree.sel, v.agree.acc]
      pos := fun b => by
        obtain ⟨n, hn, h⟩ := v.agree.pos b
        rw [next_sc, h]
        rcases word_cases (live (s.ah (ix2 0 b))) with hb | hb
        · exact ⟨n + 1, by positivity, by rw [hb, select_yes, EReal.coe_add, EReal.coe_one]⟩
        · exact ⟨n, hn, by rw [hb, select_no, add_zero]⟩ }
  hx := fun b hb j => next_hx_eq v b (next_live v b hb) j

end Next

/-! ## No row running -/

/-- Where the kernel's exit test holds, no row is running. -/
theorem not_live {s : LS Ideal} (hf : full s.ah = 1#1) (b : Fin 1024) : live (s.ah (ix2 0 b)) = 0#1 := by
  rw [live, decide_eq_false (not_lt.mpr (full_at s.ah hf b))]
  rfl

/-- A trip of the reference with no row running keeps all the results are made of. -/
theorem stay {s : LS Ideal} {V : Val} (hf : full s.ah = 1#1) (g : Agree s V) : Agree s (STEP V) := by
  have hs : ∀ b, aSel V (ix1 b) = 0#1 := fun b => (g.sel b).trans (not_live hf b)
  have ha : ∀ b, aAcc (STEP V) (ix1 b) = s.ah (ix2 0 b) := fun b => by
    rw [step_acc, hs, select_no, add_zero, g.acc]
  exact
    { acc := ha
      sel := fun b => by rw [step_sel, ha]; rfl
      ahx := fun b j => by rw [step_ahx, hs, select_no, select_no, add_zero, add_zero, g.ahx]
      sc := fun b => by rw [step_sc, hs, select_no, add_zero, g.sc]
      spc := fun b => by rw [step_spc, hs, select_no, g.spc]
      pos := g.pos }

/-- Several such trips keep it too. -/
theorem stay_all {s : LS Ideal} (hf : full s.ah = 1#1) : ∀ (n : ℕ) {V : Val}, Agree s V → Agree s (STEP^[n] V)
  | 0, _, g => g
  | n + 1, V, g => by
    rw [Function.iterate_succ_apply]
    exact stay_all hf n (stay hf g)

/-- The kernel's at most `n` trips against `n` of the reference. -/
theorem loop_agree {a : Inp Ideal} :
    ∀ (n : ℕ) {k : ℕ} {s : LS Ideal} {V : Val}, Inv a k s V → Agree (loop (env a) n k s) (STEP^[n] V)
  | 0, _, _, _, v => v.agree
  | n + 1, k, s, V, v => by
    by_cases hf : full s.ah = 1#1
    · rw [loop_stop (env a) (n + 1) k s hf]
      exact stay_all hf (n + 1) v.agree
    · rw [loop_go (env a) n k s hf, Function.iterate_succ_apply]
      exact loop_agree n (next_inv v)

/-- What the kernel's loop leaves and what the reference's 20 trips leave agree. -/
theorem end_agree {a : Inp Ideal} {V : Val} (h : Args a V) (st : Start V) : Agree (last a) (STEP^[20] V) := by
  rw [Function.iterate_succ_apply]
  exact loop_agree 19 (first_inv h st)

end Cert.Proof

end
-- ==== Proof.Results.lean ====
/-
  The two programs' results are the same, from memories that agree on the nine arguments.

  What the reference's loop is entered with is the arguments and the start values (`args_entry`, `start_entry`); so what it
  leaves agrees with what the kernel's loop leaves, and the two results are the same functions of that: the kernel divides
  the weighted sum by the step count where the reference sums the weighted quotients (`out_eq`), and takes the ponder sum
  from zero where the reference negates it (`pc_eq`).
-/
module

public import proofs.«01_k».proof.Proof.Agree
public import proofs.«01_k».proof.Proof.KI.Run

@[expose] public section

noncomputable section

namespace Cert.Proof

open Idealize.ShloMosaic Idealize.ShloMosaic.TcCoe
open Cert.Proof.KI Cert.Proof.Ref
open Cert.ReferenceIdeal.Value (STEP)

/-- The kernel's memory, at the ideal instance. -/
abbrev KMem := (ℓ : Loc Cert.KernelIdeal.nD Cert.KernelIdeal.τ Cert.KernelIdeal.sig) → Buf (Elt Ideal) ℓ

/-- The reference's memory, at the ideal instance. -/
abbrev RMem := (ℓ : Loc Cert.ReferenceIdeal.nD Cert.ReferenceIdeal.τ Cert.ReferenceIdeal.sig) → Buf (Elt Ideal) ℓ

/-- The reference's buffer `b` on device `c`. -/
abbrev rAt (m' : RMem) (c : Dev Cert.ReferenceIdeal.nD) (b : Ref Cert.ReferenceIdeal.sig .tc) :=
  m' ((c.tc : Thread Cert.ReferenceIdeal.nD Cert.ReferenceIdeal.τ).loc b)

/-- The kernel's inputs are the reference's arguments. -/
structure SameArgs (a : Inp Ideal) (m' : RMem) (c : Dev Cert.ReferenceIdeal.nD) : Prop where
  x : rAt m' c Cert.ReferenceIdeal.main_arg0 = a.x
  wih : rAt m' c Cert.ReferenceIdeal.main_arg1 = a.wih
  bih : rAt m' c Cert.ReferenceIdeal.main_arg2 = a.bih
  whh : rAt m' c Cert.ReferenceIdeal.main_arg3 = a.whh
  bhh : rAt m' c Cert.ReferenceIdeal.main_arg4 = a.bhh
  wp : rAt m' c Cert.ReferenceIdeal.main_arg5 = a.wp
  bp : rAt m' c Cert.ReferenceIdeal.main_arg6 = a.bp
  wfc : rAt m' c Cert.ReferenceIdeal.main_arg7 = a.wfc
  bfc : rAt m' c Cert.ReferenceIdeal.main_arg8 = a.bfc

/-- The reference's loop is entered with its inputs at the arguments, -/
theorem args_entry {a : Inp Ideal} {m' : RMem} {c : Dev Cert.ReferenceIdeal.nD} (h : SameArgs a m' c) :
    Args a (entry m' c) where
  x := (entry_x m' c).trans h.x
  wih := (entry_wih m' c).trans h.wih
  bih := (entry_bih m' c).trans h.bih
  whh := (entry_whh m' c).trans h.whh
  bhh := (entry_bhh m' c).trans h.bhh
  wp := (entry_wp m' c).trans h.wp
  bp := (entry_bp m' c).trans h.bp

/-- and all else at the start values. -/
theorem start_entry (m' : RMem) (c : Dev Cert.ReferenceIdeal.nD) : Start (entry m' c) where
  ctr := entry_ctr m' c
  hx := entry_hx m' c
  acc := entry_acc m' c
  ahx := entry_ahx m' c
  sel := entry_sel m' c
  sc := entry_sc m' c
  spc := entry_spc m' c

variable {a : Inp Ideal} {m' : RMem} {c : Dev Cert.ReferenceIdeal.nD} (h : SameArgs a m' c)
include h

/-- The outputs are the same. -/
theorem out_eq : Cert.ReferenceIdeal.Value.out_main_v16 (STEP^[20] (entry m' c)) = outOf a := by
  funext i
  obtain ⟨b, rfl⟩ : ∃ b : Fin 1024, i = ix1 b := ⟨i 0, eq_ix1 i⟩
  have g := end_agree (args_entry h) (start_entry m' c)
  obtain ⟨n, hn, hs⟩ := g.pos b
  have h7 := (Cert.ReferenceIdeal.Value.iter_main_arg7 m' c 20).trans h.wfc
  have h8 := (Cert.ReferenceIdeal.Value.iter_main_arg8 m' c 20).trans h.bfc
  refine (out_at _ b).trans ?_
  rw [outOf_at, h7, h8, g.sc, hs, ← sum_div_mul (fun j => (last a).ahx (ix2 j b)) _ hn]
  exact congrArg (· + a.bfc (ix1 0)) (Finset.sum_congr rfl fun j _ => by rw [g.ahx])

/-- The ponder costs are the same. -/
theorem pc_eq : Cert.ReferenceIdeal.Value.out_main_v7 (STEP^[20] (entry m' c)) = pcOf a := by
  funext i
  obtain ⟨b, rfl⟩ : ∃ b : Fin 1024, i = ix1 b := ⟨i 0, eq_ix1 i⟩
  have g := end_agree (args_entry h) (start_entry m' c)
  refine (pc_at _ b).trans ?_
  rw [pcOf_at, g.spc, sub_eq_add_neg, zero_add]

end Cert.Proof

end
-- ==== Proof.lean ====
/-
  The certificate: the program as printed, the same program at the ideal instance and the plain reference each run to the
  end with their arguments unchanged and every semaphore counter at zero, and the last two end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.Results
public import Idealize.ShloMosaic.Adequacy
public import Idealize.ShloMosaic.Init

@[expose] public section

noncomputable section

namespace Cert.Proof

open Idealize.ShloMosaic Idealize.SL.Sem Cert.Kernel

/-- The program runs, its arguments end unchanged and every semaphore counter ends at zero. -/
theorem frame_kernel : Cert.quiescent_Kernel (hKernel := Cert.Kernel.Gen.facts) := fun m g _ =>
  (θ_run _ _ _).mono (fun _ h => ⟨fun c => (h.1 c).2.2, h.2⟩) (Cert.Proof.K.run (F := Bits) m g)

/-- The same at the ideal instance. -/
theorem frame_ideal : Cert.quiescent_KernelIdeal (hKernelIdeal := Cert.KernelIdeal.Gen.facts) := fun m g _ =>
  (θ_run _ _ _).mono (fun _ h => ⟨fun c => (h.1 c).2.2, h.2⟩) (Cert.Proof.KI.run (F := Ideal) m g)

/-- The reference runs, its arguments end unchanged; it has no semaphore. -/
theorem frame_reference : Cert.quiescent_ReferenceIdeal (hReferenceIdeal := Cert.ReferenceIdeal.Gen.facts) := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- From memories that agree on the nine arguments both end with the same two results. -/
theorem algebraic : Cert.algebraic_KernelIdeal_ReferenceIdeal (hKernelIdeal := Cert.KernelIdeal.Gen.facts)
    (hReferenceIdeal := Cert.ReferenceIdeal.Gen.facts) := fun m g m' g' _ hargs => by
  have hs : ∀ c, SameArgs (Cert.Proof.KI.args m c) m' c := fun c =>
    have h := hargs c
    ⟨h.1, h.2.1, h.2.2.1, h.2.2.2.1, h.2.2.2.2.1, h.2.2.2.2.2.1, h.2.2.2.2.2.2.1, h.2.2.2.2.2.2.2.1, h.2.2.2.2.2.2.2.2⟩
  refine ⟨fun c => Cert.Proof.KI.outOf (Cert.Proof.KI.args m c), fun c => Cert.Proof.KI.pcOf (Cert.Proof.KI.args m c),
    (θ_run _ _ _).mono (fun _ h => h.1) (Cert.Proof.KI.run (F := Ideal) m g),
    (θ_run Cert.ReferenceIdeal.defs _ _).mono (fun r h c => ?_) (Cert.ReferenceIdeal.Value.run (F := Ideal) m' g')⟩
  exact ⟨(h c).1.trans (out_eq (hs c)), (h c).2.1.trans (pc_eq (hs c)), (h c).2.2⟩

theorem claim : Cert.Claim := ⟨Cert.Kernel.Gen.facts, Cert.KernelIdeal.Gen.facts, Cert.ReferenceIdeal.Gen.facts,
  frame_kernel, frame_ideal, frame_reference, trivial, algebraic⟩

end Cert.Proof

end
